-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x640x640 : Shape := ⟨4, ![16, 3, 640, 640]⟩
abbrev S6x3x8x8 : Shape := ⟨4, ![6, 3, 8, 8]⟩
abbrev S6 : Shape := ⟨1, ![6]⟩
abbrev S6x192 : Shape := ⟨2, ![6, 192]⟩
abbrev S192x6 : Shape := ⟨2, ![192, 6]⟩
abbrev S1x6 : Shape := ⟨2, ![1, 6]⟩
abbrev S16x100x6 : Shape := ⟨3, ![16, 100, 6]⟩
abbrev S1x3x64x640 : Shape := ⟨4, ![1, 3, 64, 640]⟩
abbrev S1x100x6 : Shape := ⟨3, ![1, 100, 6]⟩
abbrev S6x6400 : Shape := ⟨2, ![6, 6400]⟩
abbrev S3x64x640 : Shape := ⟨3, ![3, 64, 640]⟩
abbrev S3x8x8x80x8 : Shape := ⟨5, ![3, 8, 8, 80, 8]⟩
abbrev S8x80x3x8x8 : Shape := ⟨5, ![8, 80, 3, 8, 8]⟩
abbrev S640x192 : Shape := ⟨2, ![640, 192]⟩
abbrev S640x6 : Shape := ⟨2, ![640, 6]⟩
abbrev S6x640 : Shape := ⟨2, ![6, 640]⟩
abbrev S1x6400 : Shape := ⟨2, ![1, 6400]⟩
abbrev S6400 : Shape := ⟨1, ![6400]⟩
abbrev S50x128 : Shape := ⟨2, ![50, 128]⟩
abbrev S14x128 : Shape := ⟨2, ![14, 128]⟩
abbrev S64x128 : Shape := ⟨2, ![64, 128]⟩
abbrev S64x1 : Shape := ⟨2, ![64, 1]⟩
abbrev S64x127 : Shape := ⟨2, ![64, 127]⟩
abbrev S64x2 : Shape := ⟨2, ![64, 2]⟩
abbrev S64x126 : Shape := ⟨2, ![64, 126]⟩
abbrev S64x4 : Shape := ⟨2, ![64, 4]⟩
abbrev S64x124 : Shape := ⟨2, ![64, 124]⟩
abbrev S64x8 : Shape := ⟨2, ![64, 8]⟩
abbrev S64x120 : Shape := ⟨2, ![64, 120]⟩
abbrev S64x16 : Shape := ⟨2, ![64, 16]⟩
abbrev S64x112 : Shape := ⟨2, ![64, 112]⟩
abbrev S64x32 : Shape := ⟨2, ![64, 32]⟩
abbrev S64x96 : Shape := ⟨2, ![64, 96]⟩
abbrev S64x64 : Shape := ⟨2, ![64, 64]⟩
abbrev S32x2x128 : Shape := ⟨3, ![32, 2, 128]⟩
abbrev S32x1x128 : Shape := ⟨3, ![32, 1, 128]⟩
abbrev S32x128 : Shape := ⟨2, ![32, 128]⟩
abbrev S32x1 : Shape := ⟨2, ![32, 1]⟩
abbrev S32x127 : Shape := ⟨2, ![32, 127]⟩
abbrev S32x2 : Shape := ⟨2, ![32, 2]⟩
abbrev S32x126 : Shape := ⟨2, ![32, 126]⟩
abbrev S32x4 : Shape := ⟨2, ![32, 4]⟩
abbrev S32x124 : Shape := ⟨2, ![32, 124]⟩
abbrev S32x8 : Shape := ⟨2, ![32, 8]⟩
abbrev S32x120 : Shape := ⟨2, ![32, 120]⟩
abbrev S32x16 : Shape := ⟨2, ![32, 16]⟩
abbrev S32x112 : Shape := ⟨2, ![32, 112]⟩
abbrev S32x32 : Shape := ⟨2, ![32, 32]⟩
abbrev S32x96 : Shape := ⟨2, ![32, 96]⟩
abbrev S32x64 : Shape := ⟨2, ![32, 64]⟩
abbrev S16x2x128 : Shape := ⟨3, ![16, 2, 128]⟩
abbrev S16x1x128 : Shape := ⟨3, ![16, 1, 128]⟩
abbrev S16x128 : Shape := ⟨2, ![16, 128]⟩
abbrev S16x1 : Shape := ⟨2, ![16, 1]⟩
abbrev S16x127 : Shape := ⟨2, ![16, 127]⟩
abbrev S16x2 : Shape := ⟨2, ![16, 2]⟩
abbrev S16x126 : Shape := ⟨2, ![16, 126]⟩
abbrev S16x4 : Shape := ⟨2, ![16, 4]⟩
abbrev S16x124 : Shape := ⟨2, ![16, 124]⟩
abbrev S16x8 : Shape := ⟨2, ![16, 8]⟩
abbrev S16x120 : Shape := ⟨2, ![16, 120]⟩
abbrev S16x16 : Shape := ⟨2, ![16, 16]⟩
abbrev S16x112 : Shape := ⟨2, ![16, 112]⟩
abbrev S16x32 : Shape := ⟨2, ![16, 32]⟩
abbrev S16x96 : Shape := ⟨2, ![16, 96]⟩
abbrev S16x64 : Shape := ⟨2, ![16, 64]⟩
abbrev S8x2x128 : Shape := ⟨3, ![8, 2, 128]⟩
abbrev S8x1x128 : Shape := ⟨3, ![8, 1, 128]⟩
abbrev S8x128 : Shape := ⟨2, ![8, 128]⟩
abbrev S8x1 : Shape := ⟨2, ![8, 1]⟩
abbrev S8x127 : Shape := ⟨2, ![8, 127]⟩
abbrev S8x2 : Shape := ⟨2, ![8, 2]⟩
abbrev S8x126 : Shape := ⟨2, ![8, 126]⟩
abbrev S8x4 : Shape := ⟨2, ![8, 4]⟩
abbrev S8x124 : Shape := ⟨2, ![8, 124]⟩
abbrev S8x8 : Shape := ⟨2, ![8, 8]⟩
abbrev S8x120 : Shape := ⟨2, ![8, 120]⟩
abbrev S8x16 : Shape := ⟨2, ![8, 16]⟩
abbrev S8x112 : Shape := ⟨2, ![8, 112]⟩
abbrev S8x32 : Shape := ⟨2, ![8, 32]⟩
abbrev S8x96 : Shape := ⟨2, ![8, 96]⟩
abbrev S8x64 : Shape := ⟨2, ![8, 64]⟩
abbrev S4x2x128 : Shape := ⟨3, ![4, 2, 128]⟩
abbrev S4x1x128 : Shape := ⟨3, ![4, 1, 128]⟩
abbrev S4x128 : Shape := ⟨2, ![4, 128]⟩
abbrev S4x1 : Shape := ⟨2, ![4, 1]⟩
abbrev S4x127 : Shape := ⟨2, ![4, 127]⟩
abbrev S4x2 : Shape := ⟨2, ![4, 2]⟩
abbrev S4x126 : Shape := ⟨2, ![4, 126]⟩
abbrev S4x4 : Shape := ⟨2, ![4, 4]⟩
abbrev S4x124 : Shape := ⟨2, ![4, 124]⟩
abbrev S4x8 : Shape := ⟨2, ![4, 8]⟩
abbrev S4x120 : Shape := ⟨2, ![4, 120]⟩
abbrev S4x16 : Shape := ⟨2, ![4, 16]⟩
abbrev S4x112 : Shape := ⟨2, ![4, 112]⟩
abbrev S4x32 : Shape := ⟨2, ![4, 32]⟩
abbrev S4x96 : Shape := ⟨2, ![4, 96]⟩
abbrev S4x64 : Shape := ⟨2, ![4, 64]⟩
abbrev S2x2x128 : Shape := ⟨3, ![2, 2, 128]⟩
abbrev S2x1x128 : Shape := ⟨3, ![2, 1, 128]⟩
abbrev S2x128 : Shape := ⟨2, ![2, 128]⟩
abbrev S2x1 : Shape := ⟨2, ![2, 1]⟩
abbrev S2x127 : Shape := ⟨2, ![2, 127]⟩
abbrev S2x2 : Shape := ⟨2, ![2, 2]⟩
abbrev S2x126 : Shape := ⟨2, ![2, 126]⟩
abbrev S2x4 : Shape := ⟨2, ![2, 4]⟩
abbrev S2x124 : Shape := ⟨2, ![2, 124]⟩
abbrev S2x8 : Shape := ⟨2, ![2, 8]⟩
abbrev S2x120 : Shape := ⟨2, ![2, 120]⟩
abbrev S2x16 : Shape := ⟨2, ![2, 16]⟩
abbrev S2x112 : Shape := ⟨2, ![2, 112]⟩
abbrev S2x32 : Shape := ⟨2, ![2, 32]⟩
abbrev S2x96 : Shape := ⟨2, ![2, 96]⟩
abbrev S2x64 : Shape := ⟨2, ![2, 64]⟩
abbrev S1x2x128 : Shape := ⟨3, ![1, 2, 128]⟩
abbrev S1x1x128 : Shape := ⟨3, ![1, 1, 128]⟩
abbrev S1x128 : Shape := ⟨2, ![1, 128]⟩
abbrev S1x1 : Shape := ⟨2, ![1, 1]⟩
abbrev S1x127 : Shape := ⟨2, ![1, 127]⟩
abbrev S1x2 : Shape := ⟨2, ![1, 2]⟩
abbrev S1x126 : Shape := ⟨2, ![1, 126]⟩
abbrev S1x4 : Shape := ⟨2, ![1, 4]⟩
abbrev S1x124 : Shape := ⟨2, ![1, 124]⟩
abbrev S1x8 : Shape := ⟨2, ![1, 8]⟩
abbrev S1x120 : Shape := ⟨2, ![1, 120]⟩
abbrev S1x16 : Shape := ⟨2, ![1, 16]⟩
abbrev S1x112 : Shape := ⟨2, ![1, 112]⟩
abbrev S1x32 : Shape := ⟨2, ![1, 32]⟩
abbrev S1x96 : Shape := ⟨2, ![1, 96]⟩
abbrev S1x64 : Shape := ⟨2, ![1, 64]⟩
abbrev S128 : Shape := ⟨1, ![128]⟩
abbrev S6x128 : Shape := ⟨2, ![6, 128]⟩
abbrev S128x6 : Shape := ⟨2, ![128, 6]⟩
abbrev S100x6 : Shape := ⟨2, ![100, 6]⟩

abbrev nBuf : Space → Nat
  | .hbm => 9
  | .vmem => 7
  | .smem => 0
  | _ => 0

abbrev bufTy : (tb : Table) → Fin (tcTables nBuf tb) → BufTy
  | .hbm, ⟨0, _⟩ => ⟨S16x3x640x640, .f32⟩
  | .hbm, ⟨1, _⟩ => ⟨S6x3x8x8, .f32⟩
  | .hbm, ⟨2, _⟩ => ⟨S6, .f32⟩
  | .hbm, ⟨3, _⟩ => ⟨S6x3x8x8, .f32⟩
  | .hbm, ⟨4, _⟩ => ⟨S6x192, .f32⟩
  | .hbm, ⟨5, _⟩ => ⟨S192x6, .f32⟩
  | .hbm, ⟨6, _⟩ => ⟨S192x6, .bf16⟩
  | .hbm, ⟨7, _⟩ => ⟨S1x6, .f32⟩
  | .hbm, ⟨8, _⟩ => ⟨S16x100x6, .f32⟩
  | .local _ .vmem, ⟨0, _⟩ => ⟨S1x3x64x640, .f32⟩
  | .local _ .vmem, ⟨1, _⟩ => ⟨S1x3x64x640, .f32⟩
  | .local _ .vmem, ⟨2, _⟩ => ⟨S192x6, .bf16⟩
  | .local _ .vmem, ⟨3, _⟩ => ⟨S1x6, .f32⟩
  | .local _ .vmem, ⟨4, _⟩ => ⟨S1x100x6, .f32⟩
  | .local _ .vmem, ⟨5, _⟩ => ⟨S1x100x6, .f32⟩
  | .local _ .vmem, ⟨6, _⟩ => ⟨S6x6400, .f32⟩
  | _, _ => ⟨S16x3x640x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 10], ![false, false]⟩

def k0_off1 (i : grid0.Coords) : Fin 2 → Nat :=
  let c0_8 : Index := 0#32
  let arg1 : BitVec 32 := BitVec.ofNat 32 (i 1).val
  let c640_i32 : BitVec 32 := 640#32
  let v17 : BitVec 32 := Scalar.muli arg1 c640_i32
  let v18 : Index := Scalar.indexCast v17
  ![0, v18.toNat]
def k0_cond1 (i : grid0.Coords) : BitVec 1 :=
  let arg1 : BitVec 32 := BitVec.ofNat 32 (i 1).val
  let c9_i32 : BitVec 32 := 9#32
  let v22 : BitVec 1 := Scalar.cmpi .eq arg1 c9_i32
  let v23 : BitVec 32 := Scalar.extui v22
  let c0_i32 : BitVec 32 := 0#32
  let v24 : BitVec 1 := Scalar.cmpi .ne v23 c0_i32
  v24

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x64x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S192x6 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x100x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S16x3x640x640 : Shape := ⟨4, ![16, 3, 640, 640]⟩
abbrev S6x3x8x8 : Shape := ⟨4, ![6, 3, 8, 8]⟩
abbrev S6 : Shape := ⟨1, ![6]⟩
abbrev S_ : Shape := ⟨0, ![]⟩
abbrev S16x3x80x8x80x8 : Shape := ⟨6, ![16, 3, 80, 8, 80, 8]⟩
abbrev S6x16x80x80 : Shape := ⟨4, ![6, 16, 80, 80]⟩
abbrev S16x6x80x80 : Shape := ⟨4, ![16, 6, 80, 80]⟩
abbrev S1x6x1x1 : Shape := ⟨4, ![1, 6, 1, 1]⟩
abbrev S16x6x6400 : Shape := ⟨3, ![16, 6, 6400]⟩
abbrev S16x6400x6 : Shape := ⟨3, ![16, 6400, 6]⟩
abbrev S16x6400x1 : Shape := ⟨3, ![16, 6400, 1]⟩
abbrev S16x6400 : Shape := ⟨2, ![16, 6400]⟩
abbrev S16x100 : Shape := ⟨2, ![16, 100]⟩
abbrev S16x100x1 : Shape := ⟨3, ![16, 100, 1]⟩
abbrev S16x100x6 : Shape := ⟨3, ![16, 100, 6]⟩
abbrev S16x100x6x1 : Shape := ⟨4, ![16, 100, 6, 1]⟩
abbrev S1 : Shape := ⟨1, ![1]⟩
abbrev S1x1x1x1 : Shape := ⟨4, ![1, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S16x3x640x640, .f32⟩
  | .hbm, ⟨1, _⟩ => ⟨S6x3x8x8, .f32⟩
  | .hbm, ⟨2, _⟩ => ⟨S6, .f32⟩
  | .hbm, ⟨3, _⟩ => ⟨S_, .f32⟩
  | .hbm, ⟨4, _⟩ => ⟨S16x3x640x640, .f32⟩
  | .hbm, ⟨5, _⟩ => ⟨S16x3x640x640, .f32⟩
  | .hbm, ⟨6, _⟩ => ⟨S16x3x640x640, .f32⟩
  | .hbm, ⟨7, _⟩ => ⟨S16x3x80x8x80x8, .f32⟩
  | .hbm, ⟨8, _⟩ => ⟨S6x16x80x80, .f32⟩
  | .hbm, ⟨9, _⟩ => ⟨S16x6x80x80, .f32⟩
  | .hbm, ⟨10, _⟩ => ⟨S1x6x1x1, .f32⟩
  | .hbm, ⟨11, _⟩ => ⟨S16x6x80x80, .f32⟩
  | .hbm, ⟨12, _⟩ => ⟨S16x6x80x80, .f32⟩
  | .hbm, ⟨13, _⟩ => ⟨S16x6x6400, .f32⟩
  | .hbm, ⟨14, _⟩ => ⟨S16x6400x6, .f32⟩
  | .hbm, ⟨15, _⟩ => ⟨S16x6400x1, .f32⟩
  | .hbm, ⟨16, _⟩ => ⟨S16x6400, .f32⟩
  | .hbm, ⟨17, _⟩ => ⟨S16x100, .f32⟩
  | .hbm, ⟨18, _⟩ => ⟨S16x100, .i32⟩
  | .hbm, ⟨19, _⟩ => ⟨S16x100x1, .i32⟩
  | .hbm, ⟨20, _⟩ => ⟨S16x100x6, .i32⟩
  | .hbm, ⟨21, _⟩ => ⟨S_, .i32⟩
  | .hbm, ⟨22, _⟩ => ⟨S16x100x6, .i32⟩
  | .hbm, ⟨23, _⟩ => ⟨S16x100x6, .i1⟩
  | .hbm, ⟨24, _⟩ => ⟨S_, .i32⟩
  | .hbm, ⟨25, _⟩ => ⟨S16x100x6, .i32⟩
  | .hbm, ⟨26, _⟩ => ⟨S16x100x6, .i32⟩
  | .hbm, ⟨27, _⟩ => ⟨S16x100x6, .i32⟩
  | .hbm, ⟨28, _⟩ => ⟨S16x100x6x1, .i32⟩
  | .hbm, ⟨29, _⟩ => ⟨S1, .i32⟩
  | .hbm, ⟨30, _⟩ => ⟨S_, .i32⟩
  | .hbm, ⟨31, _⟩ => ⟨S16x100x6x1, .i32⟩
  | .hbm, ⟨32, _⟩ => ⟨S16x100x6x1, .i1⟩
  | .hbm, ⟨33, _⟩ => ⟨S1x1x1x1, .i32⟩
  | .hbm, ⟨34, _⟩ => ⟨S16x100x6x1, .i32⟩
  | .hbm, ⟨35, _⟩ => ⟨S16x100x6x1, .i1⟩
  | .hbm, ⟨36, _⟩ => ⟨S16x100x6x1, .i1⟩
  | .hbm, ⟨37, _⟩ => ⟨S_, .i1⟩
  | .hbm, ⟨38, _⟩ => ⟨S16x100x6, .i1⟩
  | .hbm, ⟨39, _⟩ => ⟨S16x100x6, .f32⟩
  | .hbm, ⟨40, _⟩ => ⟨S_, .f32⟩
  | .hbm, ⟨41, _⟩ => ⟨S16x100x6, .f32⟩
  | .hbm, ⟨42, _⟩ => ⟨S16x100x6, .f32⟩
  | .hbm, ⟨43, _⟩ => ⟨S16x100x1, .f32⟩
  | .hbm, ⟨44, _⟩ => ⟨S16x100, .f32⟩
  | .hbm, ⟨45, _⟩ => ⟨S_, .f32⟩
  | .hbm, ⟨46, _⟩ => ⟨S16x100, .f32⟩
  | .hbm, ⟨47, _⟩ => ⟨S16x100, .f32⟩
  | .hbm, ⟨48, _⟩ => ⟨S16x100x1, .f32⟩
  | .hbm, ⟨49, _⟩ => ⟨S16x100, .f32⟩
  | .hbm, ⟨50, _⟩ => ⟨S_, .f32⟩
  | .hbm, ⟨51, _⟩ => ⟨S16x100, .f32⟩
  | .hbm, ⟨52, _⟩ => ⟨S16x100, .f32⟩
  | .hbm, ⟨53, _⟩ => ⟨S16x100x1, .f32⟩
  | .hbm, ⟨54, _⟩ => ⟨S16x100, .f32⟩
  | .hbm, ⟨55, _⟩ => ⟨S_, .f32⟩
  | .hbm, ⟨56, _⟩ => ⟨S16x100, .f32⟩
  | .hbm, ⟨57, _⟩ => ⟨S16x100, .f32⟩
  | .hbm, ⟨58, _⟩ => ⟨S16x100x1, .f32⟩
  | .hbm, ⟨59, _⟩ => ⟨S16x100, .f32⟩
  | .hbm, ⟨60, _⟩ => ⟨S_, .f32⟩
  | .hbm, ⟨61, _⟩ => ⟨S16x100, .f32⟩
  | .hbm, ⟨62, _⟩ => ⟨S16x100, .f32⟩
  | .hbm, ⟨63, _⟩ => ⟨S16x100x1, .f32⟩
  | .hbm, ⟨64, _⟩ => ⟨S16x100, .f32⟩
  | .hbm, ⟨65, _⟩ => ⟨S16x100x1, .f32⟩
  | .hbm, ⟨66, _⟩ => ⟨S16x100, .f32⟩
  | .hbm, ⟨67, _⟩ => ⟨S16x100, .f32⟩
  | .hbm, ⟨68, _⟩ => ⟨S_, .f32⟩
  | .hbm, ⟨69, _⟩ => ⟨S16x100, .f32⟩
  | .hbm, ⟨70, _⟩ => ⟨S16x100, .f32⟩
  | .hbm, ⟨71, _⟩ => ⟨S16x100, .f32⟩
  | .hbm, ⟨72, _⟩ => ⟨S_, .f32⟩
  | .hbm, ⟨73, _⟩ => ⟨S16x100, .f32⟩
  | .hbm, ⟨74, _⟩ => ⟨S16x100, .f32⟩
  | .hbm, ⟨75, _⟩ => ⟨S16x100, .f32⟩
  | .hbm, ⟨76, _⟩ => ⟨S16x100, .f32⟩
  | .hbm, ⟨77, _⟩ => ⟨S16x100x1, .f32⟩
  | .hbm, ⟨78, _⟩ => ⟨S16x100x1, .f32⟩
  | .hbm, ⟨79, _⟩ => ⟨S16x100x1, .f32⟩
  | .hbm, ⟨80, _⟩ => ⟨S16x100x1, .f32⟩
  | .hbm, ⟨81, _⟩ => ⟨S16x100x1, .f32⟩
  | .hbm, ⟨82, _⟩ => ⟨S16x100x1, .f32⟩
  | .hbm, ⟨83, _⟩ => ⟨S16x100x6, .f32⟩
  | _, _ => ⟨S16x3x640x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_values : Ref sig .tc := ⟨.hbm, 17, rfl⟩
abbrev main_indices : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_1 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_4 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]
-- ==== Proof.Net.lean ====
/- The top-100 selection of one image, written as functions of whole arrays: records of a key, an index and six
   channels in an array of rows of 128 lanes; a compare-exchange stage of the lanes; the sort of every row; the merge of
   pairs of rows; the decoding of the first 100 records of the one row that is left. -/
module

public import proofs.«01_k».proof.Proof.Gen.KernelIdeal

@[expose] public section

noncomputable section

namespace Cert.Net

open Idealize.ShloMosaic

variable {F : FTy → Type} [FloatOps F]

/-- The shape of `r` rows of `n` lanes. -/
abbrev sh (r n : ℕ) : Shape := ⟨2, ![r, n]⟩
/-- The shape of `r` groups of `g` rows of 128 lanes. -/
abbrev sh3 (r g : ℕ) : Shape := ⟨3, ![r, g, 128]⟩

/-- A block of `n` lanes at lane `o` is inside the rows. -/
theorem slices_lane (r n o : ℕ) (h : o + n ≤ 128) : (sh r 128).Slices ![0, o] (sh r n) :=
  ⟨rfl, fun a => by
    refine Fin.cases ?_ (fun b => Fin.cases ?_ (fun c => c.elim0) b) a
    · exact (Nat.zero_add r).le
    · exact h⟩

/-- Two blocks of `n` and `m` lanes make the 128 lanes. -/
theorem cat_lane (r n m : ℕ) (h : n + m = 128) : Shape.Concatenates [sh r n, sh r m] (sh r 128) 1 := by
  refine ⟨le_refl 2, ?_, ?_⟩
  · intro s hs
    have h2 : s = sh r n ∨ s = sh r m := by simpa using hs
    rcases h2 with rfl | rfl
    all_goals
      refine ⟨rfl, fun b => ?_⟩
      refine Fin.cases ?_ (fun b => Fin.cases ?_ (fun c => c.elim0) b) b
      · intro _; rfl
      · intro hb; exact absurd rfl hb
  · simpa [sh] using h

/-- The lane numbers can be taken along axis 1. -/
theorem iota_lane (r : ℕ) : (sh r 128).Iotas .tc 32 [1] :=
  ⟨List.nodup_singleton _, fun _ => ⟨Or.inr rfl, le_refl 2⟩, fun h => absurd rfl h⟩

/-- Records in `r` rows of 128 lanes: a key, an index and six channels each. -/
structure Recs (F : FTy → Type) (r : ℕ) where
  /-- the keys, by which the records are ordered -/
  key : FVec F (sh r 128) .f32
  /-- the indices, which break ties -/
  idx : IVec (sh r 128) 32
  /-- channel 0 -/
  c0 : FVec F (sh r 128) .f32
  /-- channel 1 -/
  c1 : FVec F (sh r 128) .f32
  /-- channel 2 -/
  c2 : FVec F (sh r 128) .f32
  /-- channel 3 -/
  c3 : FVec F (sh r 128) .f32
  /-- channel 4 -/
  c4 : FVec F (sh r 128) .f32
  /-- channel 5 -/
  c5 : FVec F (sh r 128) .f32

/-- The lanes moved up by `n`, the last `n` lanes coming first. -/
def roll {α : Type} (r n : ℕ) (hn : n ≤ 128) (x : (sh r 128).Idx → α) : (sh r 128).Idx → α :=
  concatenate (sh r 128) 1
    [⟨sh r n, extractStridedSlice (sh r n) ![0, 128 - n] x (slices_lane r n (128 - n) (by omega))⟩,
     ⟨sh r (128 - n), extractStridedSlice (sh r (128 - n)) ![0, 0] x (slices_lane r (128 - n) 0 (by omega))⟩]
    (cat_lane r n (128 - n) (by omega))

/-- A distance between the lanes of a pair is at most 128. -/
theorem pow_le (s : Fin 7) : 2 ^ s.val ≤ 128 :=
  le_trans (Nat.pow_le_pow_right (by omega) (Nat.le_of_lt_succ s.isLt)) (by decide : 2 ^ 6 ≤ 128)

/-- The lane numbers. -/
def lane (r : ℕ) : IVec (sh r 128) 32 := iota .tc (sh r 128) 32 [1] (iota_lane r)

/-- Where bit `s` of the lane is set. -/
def high (r : ℕ) (s : Fin 7) : IVec (sh r 128) 1 :=
  cmpi .ne (andi (lane r) (broadcast (sh r 128) (BitVec.ofNat 32 (2 ^ s.val)))) (broadcast (sh r 128) 0#32)

/-- Where bit `s` of the lane is clear. -/
def low (r : ℕ) (s : Fin 7) : IVec (sh r 128) 1 :=
  cmpi .eq (andi (lane r) (broadcast (sh r 128) (BitVec.ofNat 32 (2 ^ s.val)))) (broadcast (sh r 128) 0#32)

/-- Where bit `k` of the lane is clear, read off the shifted lane number. -/
def descends (r k : ℕ) : IVec (sh r 128) 1 :=
  cmpi .eq (andi (shrsi (lane r) (broadcast (sh r 128) (BitVec.ofNat 32 k))) (broadcast (sh r 128) 1#32))
    (broadcast (sh r 128) 0#32)

/-- Where the two masks agree. -/
def agree {r : ℕ} (x y : IVec (sh r 128) 1) : IVec (sh r 128) 1 := xori (xori x y) (constantI (sh r 128) 1 1#1)

/-- At each lane the element at the lane whose bit `s` is the other. -/
def partner {α : Type} (r : ℕ) (s : Fin 7) (x : (sh r 128).Idx → α) : (sh r 128).Idx → α :=
  select (high r s) (roll r (2 ^ s.val) (pow_le s) x) (roll r (128 - 2 ^ s.val) (Nat.sub_le _ _) x)

/-- Where the first record comes before the second: a greater key, or the same key and a smaller index. -/
def beats {r : ℕ} (ak : FVec F (sh r 128) .f32) (ai : IVec (sh r 128) 32) (bk : FVec F (sh r 128) .f32)
    (bi : IVec (sh r 128) 32) : IVec (sh r 128) 1 :=
  ori (cmpf .ogt ak bk) (andi (cmpf .oeq ak bk) (cmpi .slt ai bi))

/-- The records of the first array where the mask is set, of the second elsewhere. -/
def pick {r : ℕ} (m : IVec (sh r 128) 1) (A B : Recs F r) : Recs F r where
  key := select m A.key B.key
  idx := select m A.idx B.idx
  c0 := select m A.c0 B.c0
  c1 := select m A.c1 B.c1
  c2 := select m A.c2 B.c2
  c3 := select m A.c3 B.c3
  c4 := select m A.c4 B.c4
  c5 := select m A.c5 B.c5

/-- The records at the lanes whose bit `s` is the other. -/
def partners {r : ℕ} (s : Fin 7) (A : Recs F r) : Recs F r where
  key := partner r s A.key
  idx := partner r s A.idx
  c0 := partner r s A.c0
  c1 := partner r s A.c1
  c2 := partner r s A.c2
  c3 := partner r s A.c3
  c4 := partner r s A.c4
  c5 := partner r s A.c5

/-- One stage of compare-exchanges at distance `2 ^ s`: the winner stays where the mask is set. -/
def stage {r : ℕ} (s : Fin 7) (m : IVec (sh r 128) 1) (A : Recs F r) : Recs F r :=
  pick (agree (beats A.key A.idx (partners s A).key (partners s A).idx) m) A (partners s A)

/-- The stages of the sort of a row: the size of the blocks and the distance, both as powers of two. -/
def sortStages : List (ℕ × Fin 7) :=
  [(1, 0), (2, 1), (2, 0), (3, 2), (3, 1), (3, 0), (4, 3), (4, 2), (4, 1), (4, 0), (5, 4), (5, 3), (5, 2), (5, 1), (5, 0),
   (6, 5), (6, 4), (6, 3), (6, 2), (6, 1), (6, 0), (7, 6), (7, 5), (7, 4), (7, 3), (7, 2), (7, 1), (7, 0)]

/-- Every row sorted. -/
def sortRows {r : ℕ} (A : Recs F r) : Recs F r :=
  sortStages.foldl (fun A p => stage p.2 (agree (low r p.2) (descends r p.1)) A) A

/-- The lanes in the other order, bit by bit. -/
def reverseLanes {α : Type} {r : ℕ} (x : (sh r 128).Idx → α) : (sh r 128).Idx → α :=
  partner r 6 (partner r 5 (partner r 4 (partner r 3 (partner r 2 (partner r 1 (partner r 0 x))))))

/-- The rows of a pair: row `g` of every pair of rows. -/
theorem slices_pair (r : ℕ) (g : Fin 2) : (sh3 r 2).Slices ![0, g.val, 0] (sh3 r 1) :=
  ⟨rfl, fun a => by
    refine Fin.cases ?_ (fun b => Fin.cases ?_ (fun c => Fin.cases ?_ (fun d => d.elim0) c) b) a
    · exact (Nat.zero_add r).le
    · exact g.isLt
    · exact le_refl 128⟩

/-- `2 r` rows are `r` pairs of rows. -/
theorem cast_pair (r : ℕ) : (sh (2 * r) 128).ShapeCasts (sh3 r 2) := by
  simp [Shape.ShapeCasts, Shape.numel, Fin.prod_univ_succ]; omega

/-- `r` single rows are `r` rows. -/
theorem cast_single (r : ℕ) : (sh3 r 1).ShapeCasts (sh r 128) := by
  simp [Shape.ShapeCasts, Shape.numel, Fin.prod_univ_succ]

/-- Row `g` of every pair of rows. -/
def half {α : Type} (r : ℕ) (g : Fin 2) (x : (sh (2 * r) 128).Idx → α) : (sh r 128).Idx → α :=
  shapeCast (sh r 128) (extractStridedSlice (sh3 r 1) ![0, g.val, 0] (shapeCast (sh3 r 2) x (cast_pair r)) (slices_pair r g))
    (cast_single r)

/-- The records of the first row of every pair. -/
def firsts {r : ℕ} (A : Recs F (2 * r)) : Recs F r where
  key := half r 0 A.key
  idx := half r 0 A.idx
  c0 := half r 0 A.c0
  c1 := half r 0 A.c1
  c2 := half r 0 A.c2
  c3 := half r 0 A.c3
  c4 := half r 0 A.c4
  c5 := half r 0 A.c5

/-- The records of the second row of every pair, the lanes in the other order. -/
def seconds {r : ℕ} (A : Recs F (2 * r)) : Recs F r where
  key := reverseLanes (half r 1 A.key)
  idx := reverseLanes (half r 1 A.idx)
  c0 := reverseLanes (half r 1 A.c0)
  c1 := reverseLanes (half r 1 A.c1)
  c2 := reverseLanes (half r 1 A.c2)
  c3 := reverseLanes (half r 1 A.c3)
  c4 := reverseLanes (half r 1 A.c4)
  c5 := reverseLanes (half r 1 A.c5)

/-- The stages that order a row whose winners were taken from two ordered rows. -/
def cleanup {r : ℕ} (A : Recs F r) : Recs F r :=
  ([6, 5, 4, 3, 2, 1, 0] : List (Fin 7)).foldl (fun A s => stage s (low r s) A) A

/-- The first 128 records of every pair of ordered rows, in order. -/
def mergeRows {r : ℕ} (A : Recs F (2 * r)) : Recs F r :=
  cleanup (pick (beats (firsts A).key (firsts A).idx (seconds A).key (seconds A).idx) (firsts A) (seconds A))

/-- The sort of 64 rows, and the six rounds of merging. -/
def net (A : Recs F 64) : Recs F 1 :=
  mergeRows (r := 1) (mergeRows (r := 2) (mergeRows (r := 4) (mergeRows (r := 8) (mergeRows (r := 16)
    (mergeRows (r := 32) (sortRows A))))))

/-- A vector of 6400 as 50 rows. -/
def rows50 (x : Vec F ⟨2, ![1, 6400]⟩ .f32) : FVec F (sh 50 128) .f32 :=
  shapeCast (sh 50 128) (shapeCast ⟨1, ![6400]⟩ x (by decide)) (by decide)

/-- 50 rows and 14 rows make 64 rows. -/
theorem cat_pad : Shape.Concatenates [sh 50 128, sh 14 128] (sh 64 128) 0 := by decide

/-- Six rows make an array of six rows. -/
theorem cat_six : Shape.Concatenates [sh 1 128, sh 1 128, sh 1 128, sh 1 128, sh 1 128, sh 1 128] (sh 6 128) 0 := by decide

/-- 50 rows and 14 more, all of one element. -/
def padRows {α : Type} (x : (sh 50 128).Idx → α) (a : α) : (sh 64 128).Idx → α :=
  concatenate (sh 64 128) 0 [⟨sh 50 128, x⟩, ⟨sh 14 128, broadcast (sh 14 128) a⟩] cat_pad

/-- The numbers of the 6400 places in row-major order. -/
def number50 : IVec (sh 50 128) 32 :=
  addi (muli (iota .tc (sh 50 128) 32 [0] (by decide)) (broadcast (sh 50 128) 128#32)) (iota .tc (sh 50 128) 32 [1] (by decide))

/-- The records of an image: its key is channel 4; fourteen rows of padding come last. -/
def records (x0 x1 x2 x3 x4 x5 : Vec F ⟨2, ![1, 6400]⟩ .f32) : Recs F 64 where
  key := padRows (rows50 x4) (Scalar.ofBits .f32 0xFF800000#32)
  idx := padRows number50 1073741824#32
  c0 := padRows (rows50 x0) (Scalar.ofBits .f32 0x00000000#32)
  c1 := padRows (rows50 x1) (Scalar.ofBits .f32 0x00000000#32)
  c2 := padRows (rows50 x2) (Scalar.ofBits .f32 0x00000000#32)
  c3 := padRows (rows50 x3) (Scalar.ofBits .f32 0x00000000#32)
  c4 := padRows (rows50 x4) (Scalar.ofBits .f32 0x00000000#32)
  c5 := padRows (rows50 x5) (Scalar.ofBits .f32 0x00000000#32)

/-- The one row as a vector. -/
def row (x : FVec F (sh 1 128) .f32) : FVec F ⟨1, ![128]⟩ .f32 := shapeCast ⟨1, ![128]⟩ x (by decide)

/-- A vector as one row. -/
def asRow (x : FVec F ⟨1, ![128]⟩ .f32) : FVec F (sh 1 128) .f32 := shapeCast (sh 1 128) x (by decide)

/-- A coordinate as a fraction of the image's 640 pixels. -/
def frac (x : FVec F (sh 1 128) .f32) : FVec F ⟨1, ![128]⟩ .f32 :=
  divf (row x) (broadcast ⟨1, ![128]⟩ (Scalar.ofBits .f32 0x44200000#32))

/-- The midpoint of two coordinates. -/
def mid (x y : FVec F ⟨1, ![128]⟩ .f32) : FVec F ⟨1, ![128]⟩ .f32 :=
  divf (addf x y) (broadcast ⟨1, ![128]⟩ (Scalar.ofBits .f32 0x40000000#32))

/-- Six vectors as the six columns of an array. -/
def columns (y0 y1 y2 y3 y4 y5 : FVec F ⟨1, ![128]⟩ .f32) : FVec F ⟨2, ![128, 6]⟩ .f32 :=
  transpose ⟨2, ![128, 6]⟩ [1, 0]
    (concatenate (sh 6 128) 0 [⟨sh 1 128, asRow y0⟩, ⟨sh 1 128, asRow y1⟩, ⟨sh 1 128, asRow y2⟩, ⟨sh 1 128, asRow y3⟩,
      ⟨sh 1 128, asRow y4⟩, ⟨sh 1 128, asRow y5⟩] cat_six) (by decide)

/-- The first 100 records of the row, decoded: the box's centre, its width and height, its confidence and its class. -/
def decode (A : Recs F 1) : Vec F ⟨3, ![1, 100, 6]⟩ .f32 :=
  shapeCast ⟨3, ![1, 100, 6]⟩
    (extractStridedSlice ⟨2, ![100, 6]⟩ ![0, 0]
      (columns (mid (frac A.c0) (frac A.c2)) (mid (frac A.c1) (frac A.c3)) (subf (frac A.c2) (frac A.c0))
        (subf (frac A.c3) (frac A.c1)) (row A.c4) (row A.c5)) (by decide)) (by decide)

end Cert.Net

end
-- ==== Proof.Body.lean ====
/- The region that selects and decodes: six loads, and one store of the decoded records. -/
module

public import proofs.«01_k».proof.Proof.Net
public import Idealize.ShloMosaic.Lib.Tactic
public import Idealize.ShloMosaic.Lib.VecWindow

@[expose] public section

noncomputable section

namespace Cert.KernelIdeal

open Idealize.ShloMosaic Idealize.ShloMosaic.TcCoe Idealize.ShloMosaic.Tactic
open Idealize.SL.Sem

variable {F : FTy → Type} [FloatOps F] [Facts]
open Facts₀ Facts

/-- What the region stores, of the channels it finds: row `c` is channel `c` of the image's 6400 places. -/
def out100 (d : Vec F S6x6400 .f32) : Vec F S1x100x6 .f32 :=
  Net.decode (Net.net (Net.records (VecWindow.window d ![0, 0] S1x6400.size inb_S6x6400_S1x6400_0_0)
    (VecWindow.window d ![1, 0] S1x6400.size inb_S6x6400_S1x6400_1_0)
    (VecWindow.window d ![2, 0] S1x6400.size inb_S6x6400_S1x6400_2_0)
    (VecWindow.window d ![3, 0] S1x6400.size inb_S6x6400_S1x6400_3_0)
    (VecWindow.window d ![4, 0] S1x6400.size inb_S6x6400_S1x6400_4_0)
    (VecWindow.window d ![5, 0] S1x6400.size inb_S6x6400_S1x6400_5_0)))

/-- The channels of one band of 64 rows of pixels: the pixels over 255, cut into patches of 8 by 8, times the weights,
    plus the bias; channels by places. -/
def chunk (x0 : Vec F S1x3x64x640 .f32) (x1 : Vec F S192x6 .bf16) (x2 : Vec F S1x6 .f32) : FVec F S6x640 .f32 :=
  transpose S6x640 [1, 0]
    (addf
      (matmul dot_S640x192_S192x6_S640x6_1_0_0_1_n_n none
        (shapeCast S640x192
          (transpose S8x80x3x8x8 [1, 3, 0, 2, 4]
            (shapeCast S3x8x8x80x8
              (truncf .bf16
                (divf (shapeCast S3x64x640 x0 shapeCasts_S1x3x64x640_S3x64x640)
                  (broadcast S3x64x640 (Scalar.ofBits .f32 0x437F0000#32))) bitsLt_bf16_f32)
              shapeCasts_S3x64x640_S3x8x8x80x8)
            transposes_S3x8x8x80x8_p1_3_0_2_4_S8x80x3x8x8)
          shapeCasts_S8x80x3x8x8_S640x192)
        (shapeCast S192x6 x1 shapeCasts_S192x6_S192x6) (constant S640x6 .f32 0x00000000#32))
      (broadcastTo S640x6 (shapeCast S1x6 (shapeCast S6 x2 shapeCasts_S1x6_S6) shapeCasts_S6_S1x6) broadcasts_S1x6_S640x6))
    transposes_S640x6_p1_0_S6x640

/-- The region: the six channels loaded, the records sorted, the first 100 decoded and stored. -/
def select100 (arg5 : Memref sig .tc .vmem S1x100x6 .f32) (arg6 : Memref sig .tc .vmem S6x6400 .f32) :
    Prog (TpuEff nD τ sig (Elt F) Λ₀ .tc) PUnit := do
  let x0 : Vec F S1x6400 .f32 ← Prog.lift (.load arg6 (Rect.unit (s := S6x6400) ![0, 0] S1x6400.size inb_S6x6400_S1x6400_0_0).toLoadRect (View.loadsAt_vmem h_S1x6400))
  let x1 : Vec F S1x6400 .f32 ← Prog.lift (.load arg6 (Rect.unit (s := S6x6400) ![1, 0] S1x6400.size inb_S6x6400_S1x6400_1_0).toLoadRect (View.loadsAt_vmem h_S1x6400))
  let x2 : Vec F S1x6400 .f32 ← Prog.lift (.load arg6 (Rect.unit (s := S6x6400) ![2, 0] S1x6400.size inb_S6x6400_S1x6400_2_0).toLoadRect (View.loadsAt_vmem h_S1x6400))
  let x3 : Vec F S1x6400 .f32 ← Prog.lift (.load arg6 (Rect.unit (s := S6x6400) ![3, 0] S1x6400.size inb_S6x6400_S1x6400_3_0).toLoadRect (View.loadsAt_vmem h_S1x6400))
  let x4 : Vec F S1x6400 .f32 ← Prog.lift (.load arg6 (Rect.unit (s := S6x6400) ![4, 0] S1x6400.size inb_S6x6400_S1x6400_4_0).toLoadRect (View.loadsAt_vmem h_S1x6400))
  let x5 : Vec F S1x6400 .f32 ← Prog.lift (.load arg6 (Rect.unit (s := S6x6400) ![5, 0] S1x6400.size inb_S6x6400_S1x6400_5_0).toLoadRect (View.loadsAt_vmem h_S1x6400))
  let _ : Vec F S1x100x6 .f32 ← Prog.lift (.load arg5 (Rect.unit (s := S1x100x6) ![0, 0, 0] S1x100x6.size inb_S1x100x6_S1x100x6_0_0_0).toLoadRect (View.loadsAt_vmem h_S1x100x6))
  Prog.lift (.store arg5 (Rect.unit (s := S1x100x6) ![0, 0, 0] S1x100x6.size inb_S1x100x6_S1x100x6_0_0_0) (Net.decode (Net.net (Net.records x0 x1 x2 x3 x4 x5))) Finset.univ (View.stores_vmem_bits_univ h_S1x100x6 rfl) (.inl rfl))
  pure ⟨⟩

/-- One grid point: the band's channels stored in their place; at the last band of an image, the region. -/
def body (i : grid0.Coords) (arg2 : Memref sig .tc .vmem S1x3x64x640 .f32)
    (arg3 : Memref sig .tc .vmem S192x6 .bf16) (arg4 : Memref sig .tc .vmem S1x6 .f32)
    (arg5 : Memref sig .tc .vmem S1x100x6 .f32) (arg6 : Memref sig .tc .vmem S6x6400 .f32) :
    Prog (TpuEff nD τ sig (Elt F) Λ₀ .tc) PUnit := do
  let x0 : Vec F S1x3x64x640 .f32 ← Prog.lift (.load arg2 (Rect.unit (s := S1x3x64x640) ![0, 0, 0, 0] S1x3x64x640.size inb_S1x3x64x640_S1x3x64x640_0_0_0_0).toLoadRect (View.loadsAt_vmem h_S1x3x64x640))
  let x1 : Vec F S192x6 .bf16 ← Prog.lift (.load arg3 (Rect.unit (s := S192x6) ![0, 0] S192x6.size inb_S192x6_S192x6_0_0).toLoadRect (View.loadsAt_vmem h_S192x6))
  let x2 : Vec F S1x6 .f32 ← Prog.lift (.load arg4 (Rect.unit (s := S1x6) ![0, 0] S1x6.size inb_S1x6_S1x6_0_0).toLoadRect (View.loadsAt_vmem h_S1x6))
  let _ : Vec F S6x640 .f32 ← Prog.lift (.load arg6 (Rect.unit (s := S6x6400) (k0_off1 i) S6x640.size (k0_off1_inb i)).toLoadRect (View.loadsAt_vmem h_S6x640))
  Prog.lift (.store arg6 (Rect.unit (s := S6x6400) (k0_off1 i) S6x640.size (k0_off1_inb i)) (shapeCast S6x640 (chunk x0 x1 x2) shapeCasts_S6x640_S6x640) Finset.univ (View.stores_vmem_bits_univ h_S6x640 rfl) (.inl rfl))
  if h : k0_cond1 i = 1#1 then select100 arg5 arg6 else pure ⟨⟩

set_option maxRecDepth 65536 in
/-- The kernel's program is `body`. -/
theorem body_eq (i : grid0.Coords) (arg2 : Memref sig .tc .vmem S1x3x64x640 .f32) (harg2 : arg2.IsWhole)
    (arg3 : Memref sig .tc .vmem S192x6 .bf16) (harg3 : arg3.IsWhole) (arg4 : Memref sig .tc .vmem S1x6 .f32) (harg4 : arg4.IsWhole)
    (arg5 : Memref sig .tc .vmem S1x100x6 .f32) (harg5 : arg5.IsWhole) (arg6 : Memref sig .tc .vmem S6x6400 .f32) (harg6 : arg6.IsWhole) :
    cc0__yolo_kernel (F := F) i arg2 harg2 arg3 harg3 arg4 harg4 arg5 harg5 arg6 harg6 = body i arg2 arg3 arg4 arg5 arg6 := by
  sl_kernel_rfl

end Cert.KernelIdeal

end
-- ==== Proof.Run.lean ====
/- The body at a grid point, run: at every point the band's channels go to their place in the scratch; at the last band
   of an image the first 100 records of the scratch go to the output. -/
module

public import proofs.«01_k».proof.Proof.Body
public import proofs.«01_k».proof.Proof.Gen.KernelIdeal.Frame
public import Idealize.ShloMosaic.Lib.Pipeline.Value

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch after a point: the band's channels put in their place. -/
def putBand (i : grid0.Coords) (d : Vec F S6x6400 .f32) (w : Vec F S6x640 .f32) : Vec F S6x6400 .f32 :=
  VecWindow.put d (k0_off1 i) S6x640.size w

/-- What the scratch reads after the band's store. -/
theorem read_band (i : grid0.Coords) (arg2 : Memref sig .tc .vmem S1x3x64x640 .f32) (harg2 : arg2.IsWhole)
    (arg3 : Memref sig .tc .vmem S192x6 .bf16) (harg3 : arg3.IsWhole) (arg4 : Memref sig .tc .vmem S1x6 .f32) (harg4 : arg4.IsWhole)
    (arg6 : Memref sig .tc .vmem S6x6400 .f32) (harg6 : arg6.IsWhole)
    (x0 : Vec F S1x3x64x640 .f32) (x1 : Vec F S192x6 .bf16) (x2 : Vec F S1x6 .f32) (d6 : Vec F S6x6400 .f32)
    (h0 : ∀ a, (![0, 0, 0, 0] : Fin 4 → ℕ) a + S1x3x64x640.size a ≤ S1x3x64x640.size a)
    (h1 : ∀ a, (![0, 0] : Fin 2 → ℕ) a + S192x6.size a ≤ S192x6.size a)
    (h2 : ∀ a, (![0, 0] : Fin 2 → ℕ) a + S1x6.size a ≤ S1x6.size a)
    (h3 : ∀ a, k0_off1 i a + S6x640.size a ≤ S6x6400.size a) (h4 : S6x640.ShapeCasts S6x640) :
    arg6.view.read (Elt F) (arg6.view.writes (Elt F) (harg6.unread d6)
        [⟨Rect.unit (s := S6x6400) (k0_off1 i) S6x640.size h3, shapeCast S6x640 (chunk
          (arg2.view.readAt (Elt F) (Rect.unit (s := S1x3x64x640) ![0, 0, 0, 0] S1x3x64x640.size h0).toLoadRect (harg2.unread x0))
          (arg3.view.readAt (Elt F) (Rect.unit (s := S192x6) ![0, 0] S192x6.size h1).toLoadRect (harg3.unread x1))
          (arg4.view.readAt (Elt F) (Rect.unit (s := S1x6) ![0, 0] S1x6.size h2).toLoadRect (harg4.unread x2))) h4⟩])
      = putBand i d6 (chunk x0 x1 x2) := by
  rw [View.read_writes_cons_put _ _ _ _ _ rfl, View.writes_nil, harg6.read_unread]
  rw [View.readAt_full, View.readAt_full, View.readAt_full, harg2.read_unread, harg3.read_unread, harg4.read_unread, shapeCast_self]
  rfl

set_option maxHeartbeats 1000000 in
/-- At a point that is not the last band of an image, the body puts the band's channels in the scratch. -/
theorem run_band (c : Dev nD) (i : grid0.Coords) (arg2 : Memref sig .tc .vmem S1x3x64x640 .f32) (harg2 : arg2.IsWhole)
    (arg3 : Memref sig .tc .vmem S192x6 .bf16) (harg3 : arg3.IsWhole) (arg4 : Memref sig .tc .vmem S1x6 .f32) (harg4 : arg4.IsWhole)
    (arg5 : Memref sig .tc .vmem S1x100x6 .f32) (harg5 : arg5.IsWhole) (arg6 : Memref sig .tc .vmem S6x6400 .f32) (harg6 : arg6.IsWhole)
    (hc : ¬k0_cond1 i = 1#1)
    (x0 : Vec F S1x3x64x640 .f32) (x1 : Vec F S192x6 .bf16) (x2 : Vec F S1x6 .f32) (d5 : Vec F S1x100x6 .f32) (d6 : Vec F S6x6400 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6
        ∗ (iprop(owns (c : Thread nD τ) arg2 fullShare x0 ∗ owns (c : Thread nD τ) arg3 fullShare x1 ∗ owns (c : Thread nD τ) arg4 fullShare x2
            ∗ owns (c : Thread nD τ) arg5 fullShare d5 ∗ owns (c : Thread nD τ) arg6 fullShare (putBand i d6 (chunk x0 x1 x2))) -∗ K ⟨⟩))
      ⊢ wp frame (wpE (defs₀ (F := F)) Variants.none c none) E
          (cc0__yolo_kernel i arg2 harg2 arg3 harg3 arg4 harg4 arg5 harg5 arg6 harg6) K := by
  rw [body_eq]
  unfold body
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS
  ipureintro
  sl_unfold_words
  exact read_band i arg2 harg2 arg3 harg3 arg4 harg4 arg6 harg6 x0 x1 x2 d6 _ _ _ _ _

set_option maxHeartbeats 1000000 in
/-- At the last band of an image the body also leaves the first 100 records of the scratch in the output. -/
theorem run_last (c : Dev nD) (i : grid0.Coords) (arg2 : Memref sig .tc .vmem S1x3x64x640 .f32) (harg2 : arg2.IsWhole)
    (arg3 : Memref sig .tc .vmem S192x6 .bf16) (harg3 : arg3.IsWhole) (arg4 : Memref sig .tc .vmem S1x6 .f32) (harg4 : arg4.IsWhole)
    (arg5 : Memref sig .tc .vmem S1x100x6 .f32) (harg5 : arg5.IsWhole) (arg6 : Memref sig .tc .vmem S6x6400 .f32) (harg6 : arg6.IsWhole)
    (hc : k0_cond1 i = 1#1)
    (x0 : Vec F S1x3x64x640 .f32) (x1 : Vec F S192x6 .bf16) (x2 : Vec F S1x6 .f32) (d5 : Vec F S1x100x6 .f32) (d6 : Vec F S6x6400 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare d6
        ∗ (iprop(owns (c : Thread nD τ) arg2 fullShare x0 ∗ owns (c : Thread nD τ) arg3 fullShare x1 ∗ owns (c : Thread nD τ) arg4 fullShare x2
            ∗ owns (c : Thread nD τ) arg5 fullShare (out100 (putBand i d6 (chunk x0 x1 x2))) ∗ owns (c : Thread nD τ) arg6 fullShare (putBand i d6 (chunk x0 x1 x2))) -∗ K ⟨⟩))
      ⊢ wp frame (wpE (defs₀ (F := F)) Variants.none c none) E
          (cc0__yolo_kernel i arg2 harg2 arg3 harg3 arg4 harg4 arg5 harg5 arg6 harg6) K := by
  rw [body_eq]
  unfold body select100
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [View.read_writes_full]
    unfold out100
    rw [← read_band i arg2 harg2 arg3 harg3 arg4 harg4 arg6 harg6 x0 x1 x2 d6 inb_S1x3x64x640_S1x3x64x640_0_0_0_0
      inb_S192x6_S192x6_0_0 inb_S1x6_S1x6_0_0 (k0_off1_inb i) shapeCasts_S6x640_S6x640]
    rfl
  iexists _; isplitr; swap; · iexact HS
  ipureintro
  sl_unfold_words
  exact read_band i arg2 harg2 arg3 harg3 arg4 harg4 arg6 harg6 x0 x1 x2 d6 _ _ _ _ _

end Cert.KernelIdeal.Value

end
-- ==== Proof.Launch.lean ====
/- The kernel's run: point by point, what the scratch holds and what the output block is left with; so every argument ends
   unchanged and the result array ends holding, image by image, the first 100 records of the image's channels. -/
module

public import proofs.«01_k».proof.Proof.Run
public import Idealize.ShloMosaic.Lib.Pipeline.FrameBody
public import Idealize.ShloMosaic.Lib.Claim
public import Idealize.ShloMosaic.Lib.WordCmp
public import Idealize.ShloMosaic.Lib.ValueIdxCore

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- Point `n` of the grid (taken round its end, so that it is one for every `n`). -/
def pt (n : ℕ) : Fin cfg0.N := ⟨n % 160, by rw [show cfg0.N = 160 from N_0]; exact Nat.mod_lt _ (by decide)⟩

theorem pt_val (t : Fin cfg0.N) : pt t.val = t :=
  Fin.ext (Nat.mod_eq_of_lt (lt_of_lt_of_eq t.isLt (show cfg0.N = 160 from N_0)))

/-- The channels the body computes at point `t`, from the blocks it is given there. -/
def chunkAt (c : Dev nD) (t : Fin cfg0.N) : Vec F S6x640 .f32 := chunk (iblk m c 0 t) (iblk m c 1 t) (iblk m c 2 t)

/-- The channels of image `i`: ten bands of 640 places, band `j` computed at point `10 * i + j`. -/
def predsAt (c : Dev nD) (i : ℕ) : Vec F S6x6400 .f32 := fun y =>
  chunkAt m c (pt (10 * i + (y 1).val / 640)) (ix2 (y 0) ⟨(y 1).val % 640, Nat.mod_lt _ (by decide)⟩)

/-- Before point `p` the scratch holds the bands of its image that earlier points computed. -/
def Held (c : Dev nD) (p : ℕ) (d : Vec F S6x6400 .f32) : Prop :=
  ∀ y : S6x6400.Idx, (y 1).val / 640 < p % 10 → d y = predsAt m c (p / 10) y

/-- The band at point `t` starts at place 640 times the second coordinate. -/
theorem off_band (t : Fin cfg0.N) : k0_off1 (grid0.coords t) = ![0, 640 * (t.val % 10)] := by
  have ht : t.val < 160 := Nat.lt_of_lt_of_eq t.isLt N_0
  have e1 : (grid0.coords t 1).val = t.val / 1 % 10 := Pipeline.Grid.coords_val t 1 (by decide) rfl
  have hj : t.val % 10 < 10 := Nat.mod_lt _ (by decide)
  have e : (grid0.coords t 1).val = t.val % 10 := by omega
  unfold k0_off1
  simp only [e]
  generalize t.val % 10 = j at hj
  interval_cases j <;> rfl

/-- After the band of point `t` is put in, every place up to it holds the image's channels. -/
theorem putBand_held (c : Dev nD) (t : Fin cfg0.N) (d : Vec F S6x6400 .f32) (hd : Held m c t.val d) (y : S6x6400.Idx)
    (hy : (y 1).val / 640 < t.val % 10 + 1) : putBand (grid0.coords t) d (chunkAt m c t) y = predsAt m c (t.val / 10) y := by
  unfold putBand
  rw [off_band]
  have h0 := (y 0).isLt
  by_cases h : (y 1).val / 640 = t.val % 10
  · have hm : ∀ a : Fin 2, (![0, 640 * (t.val % 10)] : Fin 2 → ℕ) a ≤ (y a).val ∧ (y a).val < (![0, 640 * (t.val % 10)] : Fin 2 → ℕ) a + S6x640.size a := fun a =>
      match a with
      | ⟨0, _⟩ => ⟨Nat.zero_le _, by show (y 0).val < 0 + 6; have : (y 0).val < 6 := h0; omega⟩
      | ⟨1, _⟩ => ⟨by show 640 * (t.val % 10) ≤ (y 1).val; omega, by show (y 1).val < 640 * (t.val % 10) + 640; omega⟩
    refine (dif_pos hm).trans ?_
    unfold predsAt
    rw [show 10 * (t.val / 10) + (y 1).val / 640 = t.val from by omega, pt_val]
    congr 1
    funext a
    match a with
    | ⟨0, _⟩ => exact Fin.ext (show (y 0).val - 0 = (y 0).val from Nat.sub_zero _)
    | ⟨1, _⟩ => exact Fin.ext (show (y 1).val - 640 * (t.val % 10) = (y 1).val % 640 from by omega)
  · have hm : ¬ ∀ a : Fin 2, (![0, 640 * (t.val % 10)] : Fin 2 → ℕ) a ≤ (y a).val ∧ (y a).val < (![0, 640 * (t.val % 10)] : Fin 2 → ℕ) a + S6x640.size a := fun hall => by
      have h1 : 640 * (t.val % 10) ≤ (y 1).val := (hall 1).1
      have h2 : (y 1).val < 640 * (t.val % 10) + 640 := (hall 1).2
      omega
    exact (dif_neg hm).trans (hd y (by omega))

theorem held_next (c : Dev nD) (t : Fin cfg0.N) (d : Vec F S6x6400 .f32) (hd : Held m c t.val d) :
    Held m c (t.val + 1) (putBand (grid0.coords t) d (chunkAt m c t)) := fun y hy => by
  rw [show (t.val + 1) / 10 = t.val / 10 from by omega]
  exact putBand_held m c t d hd y (by omega)

theorem held_last (c : Dev nD) (t : Fin cfg0.N) (h : t.val % 10 = 9) (d : Vec F S6x6400 .f32) (hd : Held m c t.val d) :
    putBand (grid0.coords t) d (chunkAt m c t) = predsAt m c (t.val / 10) :=
  funext fun y => putBand_held m c t d hd y (by have : (y 1).val < 6400 := (y 1).isLt; omega)

/-! ## The proof data -/

/-- Between points: the scratch, with the bands computed so far, and the generator's register. -/
def inv (c : Dev nD) (p : ℕ) : sProp 𝕄 :=
  iprop((∃ d, ⌜Held m c p d⌝ ∗ owns (c : Thread nD τ) (Memref.whole cc0_scratch0 : Memref sig .tc .vmem S6x6400 .f32) fullShare d) ∗ (∃ r, prngReg c r))

/-- The pipeline's proof data: each input block stays as it is, the output block of an image ends at its 100 records. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out100 (predsAt m c (t.val / 10))
  Φ p := inv m c p.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out100 (predsAt m c (t.val / 10)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- The last band of an image is at the points that are 9 modulo 10. -/
theorem last_iff (t : Fin cfg0.N) : k0_cond1 (grid0.coords t) = 1#1 ↔ t.val % 10 = 9 := by
  have ht : t.val < 160 := Nat.lt_of_lt_of_eq t.isLt N_0
  have e1 : (grid0.coords t 1).val = t.val / 1 % 10 := Pipeline.Grid.coords_val t 1 (by decide) rfl
  simp only [k0_cond1, e1]
  word_cmp

theorem idle_3 (t : Fin cfg0.N) : cfg0.idle 3 (grid0.coords t) = !(k0_cond1 (grid0.coords t) == 1#1) := rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  rw [show (dats m 0 c).leavesExact 0 t = owns (c : Thread nD τ) (win0_0.stage (cfg0.slots t 0)) fullShare (iblk m c 0 t) from by
    unfold Dat.leavesExact; rw [show cfg0.idle 0 (cfg0.grid.coords t) = false from rfl, after0_0]]
  rw [show (dats m 0 c).leavesExact 1 t = owns (c : Thread nD τ) (win0_1.stage (cfg0.slots t 1)) fullShare (iblk m c 1 t) from by
    unfold Dat.leavesExact; rw [show cfg0.idle 1 (cfg0.grid.coords t) = false from rfl, after0_1]]
  rw [show (dats m 0 c).leavesExact 2 t = owns (c : Thread nD τ) (win0_2.stage (cfg0.slots t 2)) fullShare (iblk m c 2 t) from by
    unfold Dat.leavesExact; rw [show cfg0.idle 2 (cfg0.grid.coords t) = false from rfl, after0_2]]
  by_cases h0 : t.val % 10 = 9
  · have hc := (last_iff t).mpr h0
    rw [show (dats m 0 c).leavesExact 3 t = owns (c : Thread nD τ) (win0_3.stage (cfg0.slots t 3)) fullShare (out100 (predsAt m c (t.val / 10))) from by
      unfold Dat.leavesExact
      rw [show cfg0.idle 3 (cfg0.grid.coords t) = false from (idle_3 t).trans (by rw [hc]; rfl), after0_3]]
    iintro ⟨⟨⟨%ds, %hs, HS⟩, Hg⟩, Ho, ⟨%d0, H0⟩, ⟨%d1, H1⟩, ⟨%d2, H2⟩, ⟨%d3, H3⟩⟩
    have hl := held_last m c t h0 ds hs
    iapply (run_last c (grid0.coords t) _ _ _ _ _ _ _ _ _ (Memref.isWhole_whole _) hc (iblk m c 0 t) (iblk m c 1 t) (iblk m c 2 t) _ ds Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; swap; · iexact HS
        ipureintro; exact held_next m c t ds hs
      iexact Hg
    isplitl [Ho]; · iexact Ho
    isplitl [H0]; · iexact H0
    isplitl [H1]; · iexact H1
    isplitl [H2]; · iexact H2
    rw [← hl]
    iexact H3
  · have hc : ¬k0_cond1 (grid0.coords t) = 1#1 := fun h => h0 ((last_iff t).mp h)
    have hf : (cfg0.win 3).flush t = false := by
      cases hb : (cfg0.win 3).flush t
      · rfl
      · exact absurd ((flush0_3 t).mp hb) h0
    rw [show (dats m 0 c).leavesExact 3 t = iprop(∃ d, owns (c : Thread nD τ) (win0_3.stage (cfg0.slots t 3)) fullShare ((dats m 0 c).before 3 t d)) from by
      unfold Dat.leavesExact
      rw [show cfg0.idle 3 (cfg0.grid.coords t) = true from (idle_3 t).trans (by simp [hc]), hf]]
    iintro ⟨⟨⟨%ds, %hs, HS⟩, Hg⟩, Ho, ⟨%d0, H0⟩, ⟨%d1, H1⟩, ⟨%d2, H2⟩, ⟨%d3, H3⟩⟩
    iapply (run_band c (grid0.coords t) _ _ _ _ _ _ _ _ _ (Memref.isWhole_whole _) hc (iblk m c 0 t) (iblk m c 1 t) (iblk m c 2 t) _ ds Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; swap; · iexact HS
        ipureintro; exact held_next m c t ds hs
      iexact Hg
    isplitl [Ho]; · iexact Ho
    isplitl [H0]; · iexact H0
    isplitl [H1]; · iexact H1
    isplitl [H2]; · iexact H2
    iexists _; iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The scratch at some contents and the generator's register: what the region starts from and ends with. -/
theorem rest_eq (c : Dev nD) : (Pipeline.ΦA spec0 c : sProp 𝕄)
    = iprop(iprop((∃ d, owns (c : Thread nD τ) (Memref.whole cc0_scratch0 : Memref sig .tc .vmem S6x6400 .f32) fullShare d)) ∗ (∃ r, prngReg c r)) := by
  unfold Pipeline.ΦA; rw [scopedRest0_eq]; simp only [owns_whole]; try rfl

theorem enter (c : Dev nD) : Pipeline.ΦA spec0 c ⊢ (dats (F := F) m 0 c).Φ 0 := by
  rw [rest_eq]
  show _ ⊢ inv m c 0
  unfold inv
  iintro ⟨⟨%d, H⟩, Hg⟩
  isplitl [H]
  · iexists d; isplitr; swap; · iexact H
    ipureintro; exact fun y hy => absurd hy (Nat.not_lt_zero _)
  iexact Hg

theorem leave (c : Dev nD) : (dats (F := F) m 0 c).Φ (Fin.last cfg0.N) ⊢ Pipeline.ΦA spec0 c := by
  rw [rest_eq]
  show inv m c _ ⊢ _
  unfold inv
  iintro ⟨⟨%d, %_, H⟩, Hg⟩
  isplitl [H]
  · iexists d; iexact H
  iexact Hg

set_option backward.isDefEq.respectTransparency.types false in
/-- The launch ends with the arrays at what the proof data says and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- Every argument ends unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.Value
-- ==== Proof.Transport.lean ====
/- The kernel and its idealization are one program text at two readings of the floats, so what is proved of the text at any
   reading is proved of both. -/
module

public import proofs.«01_k».proof.Defs
public import proofs.«01_k».proof.Proof.Launch
public import proofs.«01_k».proof.Proof.Gen.Kernel
public import Idealize.ShloMosaic.Lib.Tactic

@[expose] public section

set_option maxRecDepth 65536

noncomputable section

namespace Cert.Transport

open Idealize.ShloMosaic Idealize.ShloMosaic.TcCoe Idealize.ShloMosaic.Tactic Idealize.SL.Sem

/-- The program text, at floats `F`: from any memory it runs, its arguments end unchanged and every counter at zero. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The kernel's frame, without the precondition. -/
def KernelFrame : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The two statements are one: the two programs are the same text. -/
theorem frame_eq : FrameAt Bits = KernelFrame := by
  sl_kernel_rfl

/-- The kernel's frame. -/
theorem kernel_frame : KernelFrame := frame_eq.mp fun m g => Cert.KernelIdeal.Value.frame m g

end Cert.Transport
-- ==== Proof.Frames.lean ====
/- The three programs run, leave their arguments unchanged and end with every counter at zero. -/
module

public import proofs.«01_k».proof.Defs
public import proofs.«01_k».proof.Proof.Transport
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

theorem kernel : Cert.quiescent_Kernel (hKernel := Cert.Kernel.Gen.facts) := fun m g _ => Cert.Transport.kernel_frame m g

theorem kernelIdeal : Cert.quiescent_KernelIdeal (hKernelIdeal := Cert.KernelIdeal.Gen.facts) := fun m g _ =>
  Cert.KernelIdeal.Value.frame m g

theorem referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

end Cert.Frames
-- ==== Proof.Result.lean ====
/- The kernel's result array: block `i` of the launch's output is image `i`, written when the image's last band has run. -/
module

public import proofs.«01_k».proof.Proof.Launch

@[expose] public section

set_option maxRecDepth 16384

noncomputable section

namespace Cert.KernelIdeal.Value

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result: image by image, the first 100 records of the image's channels. -/
def result (c : Dev nD) : Buf (Elt F) ((c : Thread nD τ).loc main_v5) := fun y : S16x100x6.Idx =>
  out100 (predsAt m c (y 0).val) (ValueIdx.ix3 (0 : Fin 1) (y 1) (y 2))

/-- The output's block at point `t` is image `t / 10`, whole. -/
theorem index3 (t : Fin cfg0.N) : win0_3.index t 0 = t.val / 10 ∧ win0_3.index t 1 = 0 ∧ win0_3.index t 2 = 0 := by
  have ht : t.val < 160 := Nat.lt_of_lt_of_eq t.isLt N_0
  have e0 : (grid0.coords t 0).val = t.val / 10 % 16 := Pipeline.Grid.coords_val t 0 (by decide) rfl
  refine ⟨?_, rfl, rfl⟩
  show (BitVec.ofNat 32 (grid0.coords t 0).val).toNat = _
  rw [e0, BitVec.toNat_ofNat]; omega

/-- What a write-back leaves is the image's part of the result. -/
theorem flushed_eq (c : Dev nD) (t : Fin cfg0.N) (hf : (cfg0.win 3).flush t = true) :
    (dats m 0 c).flushed 3 t = ((cfg0.win 3).blk t).view.read (Elt F) (result m c) := by
  obtain ⟨h0, h1, h2⟩ := index3 t
  show (cfg0.win 3).cut (grid0.coords t) ((dats m 0 c).after 3 t) = _
  rw [after0_3]
  funext j
  rw [View.read_apply]
  have hi (y : S16x100x6.Idx) (e0 : (y 0).val = t.val / 10) (e1 : (y 1).val = (j 1).val) (e2 : (y 2).val = (j 2).val) :
      result m c y = out100 (predsAt m c (t.val / 10)) j := by
    show out100 (predsAt m c (y 0).val) (ValueIdx.ix3 (0 : Fin 1) (y 1) (y 2)) = _
    rw [e0]
    refine congrArg _ (funext fun a => ?_)
    match a with
    | ⟨0, _⟩ => exact Fin.ext (by have : (j 0).val < 1 := (j 0).isLt; show 0 = (j 0).val; omega)
    | ⟨1, _⟩ => exact Fin.ext e1
    | ⟨2, _⟩ => exact Fin.ext e2
  refine (hi _ ?_ ?_ ?_).symm
  · show win0_3.index t 0 * 1 + 1 * (j 0).val = _
    have : (j 0).val < 1 := (j 0).isLt
    rw [h0]; omega
  · show win0_3.index t 1 * 100 + 1 * (j 1).val = _
    rw [h1]; omega
  · show win0_3.index t 2 * 6 + 1 * (j 2).val = _
    rw [h2]; omega

/-- The write-backs fill the array. -/
theorem final_o (c : Dev nD) : (dats m 0 c).arrAt 3 cfg0.N = result m c :=
  (dats m 0 c).arrAt_eq_of_cover 3 (result m c) (flushed_eq m c) fun (i : S16x100x6.Idx) => by
    have g0 : (i 0).val < 16 := (i 0).isLt
    have g1 : (i 1).val < 100 := (i 1).isLt
    have g2 : (i 2).val < 6 := (i 2).isLt
    have hp : (pt (10 * (i 0).val + 9)).val = 10 * (i 0).val + 9 := Nat.mod_eq_of_lt (by omega)
    refine ⟨pt (10 * (i 0).val + 9), (flush0_3 _).mpr (by rw [hp]; omega), ?_⟩
    obtain ⟨h0, h1, h2⟩ := index3 (pt (10 * (i 0).val + 9))
    rw [hp] at h0
    show _ ∈ ((View.whole main_v5).slice (win0_3.rect (pt (10 * (i 0).val + 9)))).set
    rw [View.set_slice_whole, Rect.mem_set_unit]
    intro a
    match a with
    | ⟨0, _⟩ =>
      show win0_3.index _ 0 * 1 ≤ (i 0).val ∧ (i 0).val < win0_3.index _ 0 * 1 + 1
      rw [h0]; omega
    | ⟨1, _⟩ =>
      show win0_3.index _ 1 * 100 ≤ (i 1).val ∧ (i 1).val < win0_3.index _ 1 * 100 + 100
      rw [h1]; omega
    | ⟨2, _⟩ =>
      show win0_3.index _ 2 * 6 ≤ (i 2).val ∧ (i 2).val < win0_3.index _ 2 * 6 + 6
      rw [h2]; omega

/-- The run, read: the result array at the result, every argument unchanged. -/
theorem run_result : θ_run defs (onTc (τ := τ) (main (F := F))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.2 c).1 3).trans (final_o m c), h.1.1 c⟩)
    (θ_run_and (frame m ρ) (run_main m ρ))

end Cert.KernelIdeal.Value

end
-- ==== Proof.Conv.lean ====
/- The network's one layer, written plainly: each channel of a place is the sum, over the 3 by 8 by 8 patch of pixels the place
   stands on, of the weights times the pixels, plus the channel's bias; the colours of the patch are read in reverse order. -/
module

public import Idealize.ShloMosaic.Lib.ValueIdxRank6
public import Idealize.ShloMosaic.Lib.Pipeline.Value
public import Idealize.ShloMosaic.PureOps.Ideal.Laws
public import Idealize.ShloMosaic.Lib.ValueIdxCore

@[expose] public section

noncomputable section

namespace Cert.Net

open Idealize.ShloMosaic

/-- Channel `k` of the place whose patch of scaled pixels is `q`. -/
def layer (w : Fin 3 → Fin 8 → Fin 8 → EReal) (q : Fin 3 → Fin 8 → Fin 8 → EReal) (b : EReal) : EReal :=
  (∑ a : Fin 3, ∑ r : Fin 8, ∑ s : Fin 8, w a r s * q a.rev r s) + b

/-- A pixel, scaled. -/
def scaled (x : EReal) : EReal := Ideal.div x (Ideal.ofBits .f32 0x437F0000#32)

/-- Row or column `r` of the `n`-th patch along an axis. -/
def along (n : Fin 80) (r : Fin 8) : Fin 640 := ⟨8 * n.val + r.val, by have := n.isLt; have := r.isLt; omega⟩

/-- The row of patches place `n` is in, and its column. -/
def prow (n : Fin 6400) : Fin 80 := ⟨n.val / 80, by have := n.isLt; omega⟩
def pcol (n : Fin 6400) : Fin 80 := ⟨n.val % 80, Nat.mod_lt _ (by decide)⟩

/-- Channel `k` of place `n` of image `i`. -/
def channel (x : (⟨4, ![16, 3, 640, 640]⟩ : Shape).Idx → EReal) (w : (⟨4, ![6, 3, 8, 8]⟩ : Shape).Idx → EReal)
    (b : (⟨1, ![6]⟩ : Shape).Idx → EReal) (i : Fin 16) (k : Fin 6) (n : Fin 6400) : EReal :=
  layer (fun a r s => w (ValueIdx.ix4 k a r s))
    (fun a r s => scaled (x (ValueIdx.ix4 i a (along (prow n) r) (along (pcol n) s)))) (b (ValueIdx.ix1 k))

/-- The position of colour `a`, row `r`, column `s` among the 192 of a patch. -/
def flat (a : Fin 3) (r s : Fin 8) : Fin 192 :=
  ⟨64 * a.val + 8 * r.val + s.val, by have := a.isLt; have := r.isLt; have := s.isLt; omega⟩

/-- The positions of a patch are its colours, rows and columns. -/
def flatEquiv : Fin 3 × Fin 8 × Fin 8 ≃ Fin 192 where
  toFun t := flat t.1 t.2.1 t.2.2
  invFun q := (⟨q.val / 64, by have := q.isLt; omega⟩, ⟨q.val / 8 % 8, Nat.mod_lt _ (by decide)⟩, ⟨q.val % 8, Nat.mod_lt _ (by decide)⟩)
  left_inv t := by
    obtain ⟨a, r, s⟩ := t
    have := a.isLt; have := r.isLt; have := s.isLt
    refine Prod.ext (Fin.ext ?_) (Prod.ext (Fin.ext ?_) (Fin.ext ?_))
    · show (64 * a.val + 8 * r.val + s.val) / 64 = a.val; omega
    · show (64 * a.val + 8 * r.val + s.val) / 8 % 8 = r.val; omega
    · show (64 * a.val + 8 * r.val + s.val) % 8 = s.val; omega
  right_inv q := Fin.ext (by
    have := q.isLt
    show 64 * (q.val / 64) + 8 * (q.val / 8 % 8) + q.val % 8 = q.val; omega)

theorem sum_flat (f : Fin 192 → EReal) : ∑ q : Fin 192, f q = ∑ a : Fin 3, ∑ r : Fin 8, ∑ s : Fin 8, f (flat a r s) := by
  rw [← Fintype.sum_equiv flatEquiv (fun t => f (flat t.1 t.2.1 t.2.2)) f fun _ => rfl]
  simp only [Fintype.sum_prod_type]

/-- The layer with the factors the other way round and the weights' colours reversed instead. -/
theorem layer_rev (w q : Fin 3 → Fin 8 → Fin 8 → EReal) (b : EReal) :
    (∑ a : Fin 3, ∑ r : Fin 8, ∑ s : Fin 8, q a r s * w a.rev r s) + b = layer w q b := by
  unfold layer
  rw [← Fintype.sum_equiv Fin.revPerm (fun a : Fin 3 => ∑ r : Fin 8, ∑ s : Fin 8, q a.rev r s * w a r s)
    (fun a : Fin 3 => ∑ r : Fin 8, ∑ s : Fin 8, q a r s * w a.rev r s) fun a => by
      simp only [Fin.revPerm_apply, Fin.rev_rev]]
  simp only [mul_comm]

end Cert.Net

end
-- ==== Proof.KerConv.lean ====
/- The kernel's channels are the layer's: each point computes a band of 640 places of one image. -/
module

public import proofs.«01_k».proof.Proof.Launch
public import proofs.«01_k».proof.Proof.Conv

@[expose] public section

set_option maxRecDepth 16384

noncomputable section

namespace Cert.KernelIdeal.Value

open Cert.KernelIdeal Cert.KernelIdeal.Gen
open Idealize.ShloMosaic Idealize.ShloMosaic.TcCoe

/-! ## The product -/

/-- The product of the patches and the weights. -/
abbrev prod : DotDims S640x192 S192x6 S640x6 := dot_S640x192_S192x6_S640x6_1_0_0_1_n_n

/-- A product's summation index, from its position. -/
def posIdx (q : Fin 192) : prod.contr.Idx := fun p =>
  match p with
  | ⟨0, _⟩ => (q : Fin 192)
  | ⟨_ + 1, h⟩ => absurd h (Nat.not_lt.2 (Nat.le_add_left _ _))

/-- The summation indices are the positions. -/
def posEquiv : Fin 192 ≃ prod.contr.Idx where
  toFun := posIdx
  invFun q := (q ⟨0, by decide⟩ : Fin 192)
  left_inv _ := rfl
  right_inv q := by
    funext p
    match p with
    | ⟨0, _⟩ => rfl
    | ⟨_ + 1, h⟩ => exact absurd h (Nat.not_lt.2 (Nat.le_add_left _ _))

theorem sum_pos (f : prod.contr.Idx → EReal) : ∑ q : prod.contr.Idx, f q = ∑ q : Fin 192, f (posIdx q) :=
  (Fintype.sum_equiv posEquiv (fun q => f (posIdx q)) f fun _ => rfl).symm

theorem lhs_pos (l : Fin 640) (k : Fin 6) (q : Fin 192) : prod.lhsIdx (ValueIdx.ix2 l k) (posIdx q) = ValueIdx.ix2 l q :=
  Shape.idx_ext₂ rfl rfl

theorem rhs_pos (l : Fin 640) (k : Fin 6) (q : Fin 192) : prod.rhsIdx (ValueIdx.ix2 l k) (posIdx q) = ValueIdx.ix2 q k :=
  Shape.idx_ext₂ rfl rfl

/-! ## A band -/

/-- The row of patches, inside its band, that place `l` of the band is in, and its column. -/
def brow (l : Fin 640) : Fin 8 := ⟨l.val / 80, by have := l.isLt; omega⟩
def bcol (l : Fin 640) : Fin 80 := ⟨l.val % 80, Nat.mod_lt _ (by decide)⟩
/-- Row `r` of the `y`-th row of patches of a band. -/
def inBand (y r : Fin 8) : Fin 64 := ⟨8 * y.val + r.val, by have := y.isLt; have := r.isLt; omega⟩

/-- The patches of a band, a row each. -/
theorem rows_apply (x0 : Vec Ideal S1x3x64x640 .f32) (l : Fin 640) (a : Fin 3) (r s : Fin 8) :
    shapeCast S640x192
          (transpose S8x80x3x8x8 [1, 3, 0, 2, 4]
            (shapeCast S3x8x8x80x8
              (truncf .bf16
                (divf (shapeCast S3x64x640 x0 shapeCasts_S1x3x64x640_S3x64x640)
                  (broadcast S3x64x640 (Scalar.ofBits (F := Ideal) .f32 0x437F0000#32))) bitsLt_bf16_f32)
              shapeCasts_S3x64x640_S3x8x8x80x8)
            transposes_S3x8x8x80x8_p1_3_0_2_4_S8x80x3x8x8)
          shapeCasts_S8x80x3x8x8_S640x192 (ValueIdx.ix2 l (Net.flat a r s))
      = Net.scaled (x0 (ValueIdx.ix4 (0 : Fin 1) a (inBand (brow l) r) (Net.along (bcol l) s))) := by
  have hl := l.isLt
  refine (shapeCast_apply _ _ (ValueIdx.ix2 l (Net.flat a r s)) (ValueIdx.ix5 (brow l) (bcol l) a r s) ?_).trans ?_
  · simp only [Shape.rowMajor_val_two, Shape.rowMajor_val_five]
    show (((l.val / 80 * 80 + l.val % 80) * 3 + a.val) * 8 + r.val) * 8 + s.val = l.val * 192 + (64 * a.val + 8 * r.val + s.val)
    omega
  refine (transpose_apply _ _ _ (ValueIdx.ix5 (brow l) (bcol l) a r s) (ValueIdx.ix5 a (brow l) r (bcol l) s)
    (fun p => by fin_cases p <;> rfl)).trans ?_
  refine (shapeCast_apply _ _ (ValueIdx.ix5 a (brow l) r (bcol l) s)
    (ValueIdx.ix3 a (inBand (brow l) r) (Net.along (bcol l) s)) ?_).trans ?_
  · simp only [Shape.rowMajor_val_three, Shape.rowMajor_val_five]
    show (a.val * 64 + (8 * (l.val / 80) + r.val)) * 640 + (8 * (l.val % 80) + s.val)
      = (((a.val * 8 + l.val / 80) * 8 + r.val) * 80 + l.val % 80) * 8 + s.val
    omega
  show Net.scaled (shapeCast S3x64x640 x0 shapeCasts_S1x3x64x640_S3x64x640 _) = _
  refine congrArg Net.scaled (shapeCast_apply _ _ (ValueIdx.ix3 a (inBand (brow l) r) (Net.along (bcol l) s)) _ ?_)
  simp only [Shape.rowMajor_val_three, Shape.rowMajor_val_four]
  show ((0 * 3 + a.val) * 64 + (8 * (l.val / 80) + r.val)) * 640 + (8 * (l.val % 80) + s.val)
    = (a.val * 64 + (8 * (l.val / 80) + r.val)) * 640 + (8 * (l.val % 80) + s.val)
  omega

/-- Channel `k` of place `l` of a band. -/
theorem chunk_apply (x0 : Vec Ideal S1x3x64x640 .f32) (x1 : Vec Ideal S192x6 .bf16) (x2 : Vec Ideal S1x6 .f32)
    (k : Fin 6) (l : Fin 640) : chunk x0 x1 x2 (ValueIdx.ix2 k l)
      = (∑ a : Fin 3, ∑ r : Fin 8, ∑ s : Fin 8,
          Net.scaled (x0 (ValueIdx.ix4 (0 : Fin 1) a (inBand (brow l) r) (Net.along (bcol l) s)))
            * x1 (ValueIdx.ix2 (Net.flat a r s) k)) + x2 (ValueIdx.ix2 (0 : Fin 1) k) := by
  unfold chunk
  refine (transpose_apply _ _ _ (ValueIdx.ix2 k l) (ValueIdx.ix2 l k) (fun p => by fin_cases p <;> rfl)).trans ?_
  refine congrArg₂ (· + ·) ?_ ?_
  · refine (Ideal.matmul_constant_zero_apply prod none _ _ _).trans ?_
    rw [sum_pos, Net.sum_flat]
    refine Finset.sum_congr rfl fun a _ => Finset.sum_congr rfl fun r _ => Finset.sum_congr rfl fun s _ => ?_
    rw [lhs_pos, rhs_pos]
    exact congrArg₂ (· * ·) (rows_apply x0 l a r s) (shapeCast_apply _ _ _ _ rfl)
  · refine (broadcastTo_apply _ _ _ (ValueIdx.ix2 (0 : Fin 1) k) (fun p => by fin_cases p <;> rfl)).trans ?_
    refine (shapeCast_apply _ _ (ValueIdx.ix2 (0 : Fin 1) k) (ValueIdx.ix1 k) ?_).trans ?_
    · simp only [Shape.rowMajor_val_one, Shape.rowMajor_val_two]
      show k.val = 0 * 6 + k.val
      omega
    · refine shapeCast_apply _ _ (ValueIdx.ix1 k) (ValueIdx.ix2 (0 : Fin 1) k) ?_
      simp only [Shape.rowMajor_val_one, Shape.rowMajor_val_two]
      show 0 * 6 + k.val = k.val
      omega

/-! ## What the windows hold -/

variable (m : (ℓ : Loc nD τ sig) → Buf (Elt Ideal) ℓ)

/-- The weights, colours reversed, a patch position a row. -/
def rowsOf (w : FVec Ideal S6x3x8x8 .f32) : FVec Ideal S192x6 .bf16 :=
  truncf .bf16 (transpose S192x6 [1, 0] (shapeCast S6x192 (Host.reverse [1] w) shapeCasts_S6x3x8x8_S6x192)
    transposes_S6x192_S192x6_1_0) bitsLt_bf16_f32

theorem rowsOf_apply (w : FVec Ideal S6x3x8x8 .f32) (a : Fin 3) (r s : Fin 8) (k : Fin 6) :
    rowsOf w (ValueIdx.ix2 (Net.flat a r s) k) = w (ValueIdx.ix4 k a.rev r s) := by
  show transpose S192x6 [1, 0] (shapeCast S6x192 (Host.reverse [1] w) shapeCasts_S6x3x8x8_S6x192)
    transposes_S6x192_S192x6_1_0 (ValueIdx.ix2 (Net.flat a r s) k) = _
  refine (transpose_apply _ _ _ (ValueIdx.ix2 (Net.flat a r s) k) (ValueIdx.ix2 k (Net.flat a r s))
    (fun p => by fin_cases p <;> rfl)).trans ?_
  refine (shapeCast_apply _ _ (ValueIdx.ix2 k (Net.flat a r s)) (ValueIdx.ix4 k a r s) ?_).trans ?_
  · simp only [Shape.rowMajor_val_two, Shape.rowMajor_val_four]
    show ((k.val * 3 + a.val) * 8 + r.val) * 8 + s.val = k.val * 192 + (64 * a.val + 8 * r.val + s.val)
    omega
  · refine congrArg w (funext fun p => Fin.ext ?_)
    match p with
    | ⟨0, _⟩ => rfl
    | ⟨1, _⟩ => rfl
    | ⟨2, _⟩ => rfl
    | ⟨3, _⟩ => rfl

/-- The weights the launch is given. -/
theorem V_v3 (c : Dev nD) : V m c main_v3 = rowsOf (m ((c.tc : Thread nD τ).loc main_arg1)) := by
  show StableHlo.after hostOps0 _ (Proc.devRef .tc main_v3) = _
  after_results
  rfl

/-- The biases the launch is given. -/
theorem V_v4 (c : Dev nD) : V m c main_v4
    = shapeCast S1x6 (m ((c.tc : Thread nD τ).loc main_arg2) : FVec Ideal S6 .f32) shapeCasts_S6_S1x6 := by
  show StableHlo.after hostOps0 _ (Proc.devRef .tc main_v4) = _
  after_results
  rfl

theorem index0 (t : Fin cfg0.N) : win0_0.index t 0 = t.val / 10 ∧ win0_0.index t 1 = 0 ∧ win0_0.index t 2 = t.val % 10
    ∧ win0_0.index t 3 = 0 := by
  have ht : t.val < 160 := Nat.lt_of_lt_of_eq t.isLt N_0
  have e0 : (grid0.coords t 0).val = t.val / 10 % 16 := Pipeline.Grid.coords_val t 0 (by decide) rfl
  have e1 : (grid0.coords t 1).val = t.val / 1 % 10 := Pipeline.Grid.coords_val t 1 (by decide) rfl
  refine ⟨?_, rfl, ?_, rfl⟩
  · show (BitVec.ofNat 32 (grid0.coords t 0).val).toNat = _
    rw [e0, BitVec.toNat_ofNat]; omega
  · show (BitVec.ofNat 32 (grid0.coords t 1).val).toNat = _
    rw [e1, BitVec.toNat_ofNat]; omega

/-- The pixels given at point `t`: rows `64 * (t % 10)` on of image `t / 10`. -/
theorem iblk0_apply (c : Dev nD) (t : Fin cfg0.N) (a : Fin 3) (y : Fin 64) (z : Fin 640) (i : Fin 16) (w : Fin 640)
    (hi : i.val = t.val / 10) (hw : w.val = 64 * (t.val % 10) + y.val) :
    (iblk m c 0 t : Vec Ideal S1x3x64x640 .f32) (ValueIdx.ix4 (0 : Fin 1) a y z)
      = (m ((c.tc : Thread nD τ).loc main_arg0) : FVec Ideal S16x3x640x640 .f32) (ValueIdx.ix4 i a w z) := by
  obtain ⟨h0, h1, h2, h3⟩ := index0 t
  unfold iblk
  rw [View.read_apply]
  show V m c main_arg0 _ = _
  rw [V_main_arg0]
  refine congrArg (m ((c.tc : Thread nD τ).loc main_arg0)) (funext fun p => Fin.ext ?_)
  match p with
  | ⟨0, _⟩ => show win0_0.index t 0 * 1 + 1 * 0 = i.val; rw [h0]; omega
  | ⟨1, _⟩ => show win0_0.index t 1 * 3 + 1 * a.val = a.val; rw [h1]; omega
  | ⟨2, _⟩ => show win0_0.index t 2 * 64 + 1 * y.val = w.val; rw [h2]; omega
  | ⟨3, _⟩ => show win0_0.index t 3 * 640 + 1 * z.val = z.val; rw [h3]; omega

/-- The weights given at a point. -/
theorem iblk1_apply (c : Dev nD) (t : Fin cfg0.N) (a : Fin 3) (r s : Fin 8) (k : Fin 6) :
    (iblk m c 1 t : Vec Ideal S192x6 .bf16) (ValueIdx.ix2 (Net.flat a r s) k)
      = (m ((c.tc : Thread nD τ).loc main_arg1) : FVec Ideal S6x3x8x8 .f32) (ValueIdx.ix4 k a.rev r s) := by
  unfold iblk
  rw [View.read_apply]
  have hv : ∀ j : S192x6.Idx, (j 0).val = (Net.flat a r s).val → (j 1).val = k.val → V m c main_v3 j
      = (m ((c.tc : Thread nD τ).loc main_arg1) : FVec Ideal S6x3x8x8 .f32) (ValueIdx.ix4 k a.rev r s) := fun j e0 e1 => by
    obtain rfl : j = ValueIdx.ix2 (Net.flat a r s) k := Shape.idx_ext₂ e0 e1
    rw [V_v3]
    exact rowsOf_apply _ a r s k
  refine hv _ ?_ ?_
  · show win0_1.index t 0 * 192 + 1 * (Net.flat a r s).val = _
    rw [show win0_1.index t 0 = 0 from rfl]; omega
  · show win0_1.index t 1 * 6 + 1 * k.val = _
    rw [show win0_1.index t 1 = 0 from rfl]; omega

/-- The biases given at a point. -/
theorem iblk2_apply (c : Dev nD) (t : Fin cfg0.N) (k : Fin 6) :
    (iblk m c 2 t : Vec Ideal S1x6 .f32) (ValueIdx.ix2 (0 : Fin 1) k)
      = (m ((c.tc : Thread nD τ).loc main_arg2) : FVec Ideal S6 .f32) (ValueIdx.ix1 k) := by
  unfold iblk
  rw [View.read_apply]
  have hv : ∀ j : S1x6.Idx, (j 0).val = 0 → (j 1).val = k.val → V m c main_v4 j
      = (m ((c.tc : Thread nD τ).loc main_arg2) : FVec Ideal S6 .f32) (ValueIdx.ix1 k) := fun j e0 e1 => by
    obtain rfl : j = ValueIdx.ix2 (0 : Fin 1) k := Shape.idx_ext₂ e0 e1
    rw [V_v4]
    refine shapeCast_apply _ _ (ValueIdx.ix2 (0 : Fin 1) k) (ValueIdx.ix1 k) ?_
    simp only [Shape.rowMajor_val_one, Shape.rowMajor_val_two]
    show k.val = 0 * 6 + k.val
    omega
  refine hv _ ?_ ?_
  · show win0_2.index t 0 * 1 + 1 * 0 = _
    rw [show win0_2.index t 0 = 0 from rfl]
  · show win0_2.index t 1 * 6 + 1 * k.val = _
    rw [show win0_2.index t 1 = 0 from rfl]; omega

/-! ## An image -/

/-- The kernel's channels. -/
theorem predsAt_apply (c : Dev nD) (i : Fin 16) (k : Fin 6) (n : Fin 6400) : predsAt m c i.val (ValueIdx.ix2 k n)
    = Net.channel (m ((c.tc : Thread nD τ).loc main_arg0)) (m ((c.tc : Thread nD τ).loc main_arg1))
        (m ((c.tc : Thread nD τ).loc main_arg2)) i k n := by
  have hi := i.isLt
  have hn := n.isLt
  have hp : (pt (10 * i.val + n.val / 640)).val = 10 * i.val + n.val / 640 := Nat.mod_eq_of_lt (by omega)
  show chunk (iblk m c 0 _) (iblk m c 1 _) (iblk m c 2 _) (ValueIdx.ix2 k (⟨n.val % 640, Nat.mod_lt _ (by decide)⟩ : Fin 640)) = _
  rw [chunk_apply, iblk2_apply]
  unfold Net.channel
  rw [← Net.layer_rev]
  refine congrArg (· + _) ?_
  refine Finset.sum_congr rfl fun a _ => Finset.sum_congr rfl fun r _ => Finset.sum_congr rfl fun s _ => ?_
  rw [iblk1_apply]
  refine congrArg (Net.scaled · * _) ?_
  have hz : bcol ⟨n.val % 640, Nat.mod_lt _ (by decide)⟩ = Net.pcol n :=
    Fin.ext (show n.val % 640 % 80 = n.val % 80 by omega)
  rw [hz]
  refine iblk0_apply m c (pt (10 * i.val + n.val / 640)) a _ _ i (Net.along (Net.prow n) r) ?_ ?_
  · rw [hp]; omega
  · rw [hp]
    show 8 * (n.val / 80) + r.val = 64 * ((10 * i.val + n.val / 640) % 10) + (8 * (n.val % 640 / 80) + r.val)
    omega

end Cert.KernelIdeal.Value

end
-- ==== Proof.Lanes.lean ====
/- The selection's lane operations on extended reals, element by element: the exchange of lanes, the two masks of a stage, and the
   comparison of two records as the order of the pairs "key, then smaller index". -/
module

public import proofs.«01_k».proof.Proof.Net
public import Idealize.ShloMosaic.PureOps.Ideal
public import Idealize.ShloMosaic.Lib.ValueIdx
public import Idealize.ShloMosaic.Lib.Pointwise.SelectCore
public import Idealize.ShloMosaic.Lib.Pipeline.Value
public import Idealize.ShloMosaic.Lib.SortNet.Bitonic
public import Idealize.ShloMosaic.Lib.SortNet.Lists
public import Mathlib.Data.Prod.Lex

@[expose] public section

noncomputable section

namespace Cert.Net

open Idealize.ShloMosaic
open Idealize.ShloMosaic.ValueIdx (select_apply)

/-- The index of lane `j` of row `i`. -/
def pos {r : ℕ} (i : Fin r) (j : Fin (2 ^ 7)) : (sh r 128).Idx := ValueIdx.ix2 i (⟨j.val, j.isLt⟩ : Fin 128)

/-- Every index is a lane of a row. -/
theorem eq_pos {r : ℕ} (y : (sh r 128).Idx) : y = pos (y 0) ⟨(y 1).val, (y 1).isLt⟩ := ValueIdx.eq_ix2 y

/-- The lane numbers, lane by lane. -/
theorem lane_apply {r : ℕ} (i : Fin r) (j : Fin (2 ^ 7)) : lane r (pos i j) = BitVec.ofNat 32 j.val := by
  unfold lane
  rw [iota_single_apply]
  rfl

/-- The word of a lane's bit `s`, compared with zero. -/
theorem high_word : ∀ (s : Fin 7) (j : Fin (2 ^ 7)),
    Scalar.cmpi .ne (BitVec.ofNat 32 j.val &&& BitVec.ofNat 32 (2 ^ s.val)) 0#32
      = BitVec.ofBool (decide (j.val &&& 2 ^ s.val ≠ 0)) := by decide +kernel

/-- The same, for a clear bit. -/
theorem low_word : ∀ (s : Fin 7) (j : Fin (2 ^ 7)),
    Scalar.cmpi .eq (BitVec.ofNat 32 j.val &&& BitVec.ofNat 32 (2 ^ s.val)) 0#32
      = BitVec.ofBool (decide (j.val &&& 2 ^ s.val = 0)) := by decide +kernel

/-- Bit `k` of a lane, read off the shifted lane number. -/
theorem descends_word : ∀ (k : Fin 8) (j : Fin (2 ^ 7)),
    Scalar.cmpi .eq (Scalar.andi (Scalar.shrsi (BitVec.ofNat 32 j.val) (BitVec.ofNat 32 k.val)) 1#32) 0#32
      = BitVec.ofBool (decide (j.val &&& 2 ^ k.val = 0)) := by decide +kernel

theorem high_apply {r : ℕ} (s : Fin 7) (i : Fin r) (j : Fin (2 ^ 7)) :
    high r s (pos i j) = BitVec.ofBool (decide (j.val &&& 2 ^ s.val ≠ 0)) := by
  rw [← high_word s j, ← lane_apply i j]; rfl

theorem low_apply {r : ℕ} (s : Fin 7) (i : Fin r) (j : Fin (2 ^ 7)) :
    low r s (pos i j) = BitVec.ofBool (decide (j.val &&& 2 ^ s.val = 0)) := by
  rw [← low_word s j, ← lane_apply i j]; rfl

theorem descends_apply {r : ℕ} (k : Fin 8) (i : Fin r) (j : Fin (2 ^ 7)) :
    descends r k.val (pos i j) = BitVec.ofBool (decide (j.val &&& 2 ^ k.val = 0)) := by
  rw [← descends_word k j, ← lane_apply i j]; rfl

/-- Two masks agree where their truth values are equal. -/
theorem agree_apply {r : ℕ} {x y : IVec (sh r 128) 1} {p : (sh r 128).Idx} {a b : Bool} (hx : x p = BitVec.ofBool a)
    (hy : y p = BitVec.ofBool b) : agree x y p = BitVec.ofBool (a == b) := by
  show (x p ^^^ y p) ^^^ 1#1 = _
  rw [hx, hy]
  cases a <;> cases b <;> rfl

/-- The lanes moved up by `n`, lane by lane. -/
theorem roll_apply {α : Type} {r n : ℕ} (hn : n ≤ 128) (x : (sh r 128).Idx → α) (i : Fin r) (j k : Fin (2 ^ 7))
    (hk : k.val = if j.val < n then j.val + (128 - n) else j.val - n) : roll r n hn x (pos i j) = x (pos i k) := by
  unfold roll
  rw [concatenate_pair_apply]
  by_cases hlt : j.val < n
  · rw [if_pos hlt] at hk
    refine (dif_pos hlt).trans (congrArg x (Shape.idx_ext₂ ?_ ?_))
    · exact Nat.zero_add _
    · show 128 - n + j.val = k.val
      omega
  · rw [if_neg hlt] at hk
    refine (dif_neg hlt).trans (congrArg x (Shape.idx_ext₂ ?_ ?_))
    · exact Nat.zero_add _
    · show 0 + (j.val - n) = k.val
      omega

/-- A select under the word of a truth value. -/
theorem select_word {r : ℕ} {α : Type} {m : IVec (sh r 128) 1} {p : (sh r 128).Idx} {c : Bool} (h : m p = BitVec.ofBool c)
    (a b : (sh r 128).Idx → α) : select m a b p = if c then a p else b p := by
  rw [select_apply, h]
  cases c <;> rfl

/-- The element at the lane whose bit `s` is the other. -/
theorem partner_apply {α : Type} {r : ℕ} (s : Fin 7) (x : (sh r 128).Idx → α) (i : Fin r) (j : Fin (2 ^ 7)) :
    partner r s x (pos i j) = x (pos i (SortNet.partner 7 s.val j)) := by
  unfold partner
  rw [select_word (high_apply s i j)]
  have hj : j.val < 128 := j.isLt
  have hs := pow_le s
  by_cases h : j.val &&& 2 ^ s.val = 0
  · have h2 := SortNet.partner_val_of_clear s.isLt j h
    have hp : (SortNet.partner 7 s.val j).val < 128 := (SortNet.partner 7 s.val j).isLt
    rw [if_neg (by simpa using h)]
    refine roll_apply _ x i j _ ?_
    rw [h2] at hp ⊢
    generalize 2 ^ s.val = d at *
    rw [if_pos (by omega)]
    omega
  · obtain ⟨h1, h2⟩ := SortNet.partner_val_of_set s.isLt j h
    rw [if_pos (by simpa using h)]
    refine roll_apply _ x i j _ ?_
    rw [h2]
    generalize 2 ^ s.val = d at *
    rw [if_neg (by omega)]

/-- The lanes' order reversed, lane by lane. -/
theorem reverseLanes_apply {α : Type} {r : ℕ} (x : (sh r 128).Idx → α) (i : Fin r) (j : Fin (2 ^ 7)) :
    reverseLanes x (pos i j) = x (pos i (Fin.rev j)) := by
  have h : ∀ j : Fin (2 ^ 7), SortNet.partner 7 0 (SortNet.partner 7 1 (SortNet.partner 7 2 (SortNet.partner 7 3
      (SortNet.partner 7 4 (SortNet.partner 7 5 (SortNet.partner 7 6 j)))))) = Fin.rev j := by decide +kernel
  unfold reverseLanes
  simp only [partner_apply]
  exact congrArg (fun k => x (pos i k)) (h j)

/-- Row `g` of every pair of rows, lane by lane. -/
theorem half_apply {α : Type} {r : ℕ} (g : Fin 2) (x : (sh (2 * r) 128).Idx → α) (i : Fin r) (j : Fin (2 ^ 7)) (k : Fin (2 * r))
    (hk : k.val = 2 * i.val + g.val) : half r g x (pos i j) = x (pos k j) := by
  unfold half
  have hj : j.val < 128 := j.isLt
  rw [shapeCast_apply _ _ (pos i j) (ValueIdx.ix3 i (0 : Fin 1) (⟨j.val, hj⟩ : Fin 128)) ?_]
  · unfold extractStridedSlice
    rw [shapeCast_apply _ _ _ (pos k j) ?_]
    simp only [Shape.rowMajor_val_two, Shape.rowMajor_val_three]
    show k.val * 128 + j.val = ((0 + i.val) * 2 + (g.val + 0)) * 128 + (0 + j.val)
    omega
  · simp only [Shape.rowMajor_val_two, Shape.rowMajor_val_three]
    show (i.val * 1 + 0) * 128 + j.val = i.val * 128 + j.val
    omega

/-! ## The order of the records -/

/-- A key and an index, ordered by the key and, the keys being equal, by the smaller index. -/
abbrev Ent : Type := EReal ×ₗ ℤᵒᵈ

/-- The pair of a key and an index. -/
def ent (k : EReal) (n : ℤ) : Ent := toLex (k, OrderDual.toDual n)

/-- The key. -/
def Ent.key (e : Ent) : EReal := (ofLex e).1

/-- The index. -/
def Ent.num (e : Ent) : ℤ := OrderDual.ofDual (ofLex e).2

theorem ent_lt {k k' : EReal} {n n' : ℤ} : ent k n < ent k' n' ↔ k < k' ∨ k = k' ∧ n' < n := Prod.Lex.lt_iff

theorem ent_le {k k' : EReal} {n n' : ℤ} : ent k n ≤ ent k' n' ↔ k < k' ∨ k = k' ∧ n' ≤ n := Prod.Lex.le_iff

theorem lt_ent {e e' : Ent} : e < e' ↔ e.key < e'.key ∨ e.key = e'.key ∧ e'.num < e.num := Prod.Lex.lt_iff

/-- The records' element at an index of the array: the pair, and the channels as functions of the index. -/
structure Reads {r : ℕ} (f : Fin 6 → ℤ → EReal) (A : Recs Ideal r) (p : (sh r 128).Idx) (e : Ent) : Prop where
  key : A.key p = e.key
  idx : (A.idx p).toInt = e.num
  c0 : A.c0 p = f 0 e.num
  c1 : A.c1 p = f 1 e.num
  c2 : A.c2 p = f 2 e.num
  c3 : A.c3 p = f 3 e.num
  c4 : A.c4 p = f 4 e.num
  c5 : A.c5 p = f 5 e.num

variable {f : Fin 6 → ℤ → EReal} {r : ℕ}

/-- The comparison of two records is the order of their pairs. -/
theorem beats_apply {A B : Recs Ideal r} {p : (sh r 128).Idx} {a b : Ent} (hA : Reads f A p a) (hB : Reads f B p b) :
    beats A.key A.idx B.key B.idx p = BitVec.ofBool (decide (b < a)) := by
  show BitVec.ofBool (decide (B.key p < A.key p)) ||| (BitVec.ofBool (decide (A.key p = B.key p)) &&&
    BitVec.ofBool (BitVec.slt (A.idx p) (B.idx p))) = _
  rw [BitVec.slt_eq_decide, hA.key, hB.key, hA.idx, hB.idx,
    show decide (b < a) = decide (b.key < a.key ∨ b.key = a.key ∧ a.num < b.num) from decide_eq_decide.mpr lt_ent]
  by_cases h1 : b.key < a.key <;> by_cases h2 : a.key = b.key <;> by_cases h3 : a.num < b.num <;>
    simp [h1, h2, h3, eq_comm]

/-- A choice of records under the word of a truth value. -/
theorem pick_reads {A B : Recs Ideal r} {m : IVec (sh r 128) 1} {p : (sh r 128).Idx} {a b : Ent} {c : Bool}
    (hA : Reads f A p a) (hB : Reads f B p b) (hm : m p = BitVec.ofBool c) : Reads f (pick m A B) p (if c then a else b) := by
  constructor
  all_goals
    simp only [pick]
    rw [select_word hm]
    cases c
  · exact hB.key
  · exact hA.key
  · exact hB.idx
  · exact hA.idx
  · exact hB.c0
  · exact hA.c0
  · exact hB.c1
  · exact hA.c1
  · exact hB.c2
  · exact hA.c2
  · exact hB.c3
  · exact hA.c3
  · exact hB.c4
  · exact hA.c4
  · exact hB.c5
  · exact hA.c5

/-- The records at the lanes whose bit `s` is the other. -/
theorem partners_reads {A : Recs Ideal r} {s : Fin 7} {i : Fin r} {j : Fin (2 ^ 7)} {e : Ent}
    (h : Reads f A (pos i (SortNet.partner 7 s.val j)) e) : Reads f (partners s A) (pos i j) e :=
  ⟨(partner_apply s _ i j).trans h.key, (congrArg BitVec.toInt (partner_apply s _ i j)).trans h.idx,
    (partner_apply s _ i j).trans h.c0, (partner_apply s _ i j).trans h.c1, (partner_apply s _ i j).trans h.c2,
    (partner_apply s _ i j).trans h.c3, (partner_apply s _ i j).trans h.c4, (partner_apply s _ i j).trans h.c5⟩

/-- The records of the first row of a pair. -/
theorem firsts_reads {A : Recs Ideal (2 * r)} {i : Fin r} {j : Fin (2 ^ 7)} {k : Fin (2 * r)} (hk : k.val = 2 * i.val) {e : Ent}
    (h : Reads f A (pos k j) e) : Reads f (firsts A) (pos i j) e :=
  ⟨(half_apply 0 _ i j k hk).trans h.key, (congrArg BitVec.toInt (half_apply 0 _ i j k hk)).trans h.idx,
    (half_apply 0 _ i j k hk).trans h.c0, (half_apply 0 _ i j k hk).trans h.c1, (half_apply 0 _ i j k hk).trans h.c2,
    (half_apply 0 _ i j k hk).trans h.c3, (half_apply 0 _ i j k hk).trans h.c4, (half_apply 0 _ i j k hk).trans h.c5⟩

/-- One channel of the second row of a pair, the lanes reversed. -/
theorem second_apply {α : Type} (x : (sh (2 * r) 128).Idx → α) {i : Fin r} {j : Fin (2 ^ 7)} {k : Fin (2 * r)}
    (hk : k.val = 2 * i.val + 1) : reverseLanes (half r 1 x) (pos i j) = x (pos k (Fin.rev j)) :=
  (reverseLanes_apply _ i j).trans (half_apply 1 x i _ k hk)

/-- The records of the second row of a pair, the lanes reversed. -/
theorem seconds_reads {A : Recs Ideal (2 * r)} {i : Fin r} {j : Fin (2 ^ 7)} {k : Fin (2 * r)} (hk : k.val = 2 * i.val + 1)
    {e : Ent} (h : Reads f A (pos k (Fin.rev j)) e) : Reads f (seconds A) (pos i j) e :=
  ⟨(second_apply _ hk).trans h.key, (congrArg BitVec.toInt (second_apply _ hk)).trans h.idx,
    (second_apply _ hk).trans h.c0, (second_apply _ hk).trans h.c1, (second_apply _ hk).trans h.c2,
    (second_apply _ hk).trans h.c3, (second_apply _ hk).trans h.c4, (second_apply _ hk).trans h.c5⟩

end Cert.Net

end
-- ==== Proof.NetSort.lean ====
/- The selection's network on extended reals: the sort of every row, the merges, and so the one row that is left holds the 128
   greatest of all the records, in order. -/
module

public import proofs.«01_k».proof.Proof.Lanes

@[expose] public section

noncomputable section

namespace Cert.Net

open Idealize.ShloMosaic
open Idealize.ShloMosaic.SortNet (Network topList)

variable {f : Fin 6 → ℤ → EReal} {r : ℕ}

/-- The records of an array, row by row. -/
def Holds (f : Fin 6 → ℤ → EReal) (A : Recs Ideal r) (E : Fin r → Fin (2 ^ 7) → Ent) : Prop :=
  ∀ i j, Reads f A (pos i j) (E i j)

/-- One stage is a stage of compare-exchanges of every row. -/
theorem stage_holds {A : Recs Ideal r} {E : Fin r → Fin (2 ^ 7) → Ent} (hA : Holds f A E) (s : Fin 7)
    (m : IVec (sh r 128) 1) (keep : Fin (2 ^ 7) → Bool) (hm : ∀ i j, m (pos i j) = BitVec.ofBool (keep j))
    (hkeep : ∀ j, keep (SortNet.partner 7 s.val j) = !keep j) :
    Holds f (stage s m A) fun i => Network.apply (SortNet.stage 7 s.val keep) (E i) := fun i j => by
  have hP : Reads f (partners s A) (pos i j) (E i (SortNet.partner 7 s.val j)) := partners_reads (hA i _)
  have h := pick_reads (hA i j) hP (agree_apply (beats_apply (hA i j) hP) (hm i j))
  show Reads f (stage s m A) (pos i j) (Network.apply (SortNet.stage 7 s.val keep) (E i) j)
  rw [SortNet.apply_stage_select s.isLt keep hkeep]
  simp only [beq_iff_eq] at h
  exact h

/-- The place's bit `s` is clear exactly where its block of `2 ^ k` runs downward. -/
def sortKeep (p : ℕ × Fin 7) (j : Fin (2 ^ 7)) : Bool :=
  decide (j.val &&& 2 ^ p.2.val = 0) == decide (j.val &&& 2 ^ p.1 = 0)

theorem sortStages_lt : ∀ p ∈ sortStages, p.1 < 8 := by decide

theorem sortKeep_partner : ∀ p ∈ sortStages, ∀ j, sortKeep p (SortNet.partner 7 p.2.val j) = !sortKeep p j := by
  decide +kernel

/-- The stage of the sort, as its direction names it. -/
def sortNetStage (p : ℕ × Fin 7) : Network (2 ^ 7) :=
  SortNet.stage 7 p.2.val fun i => decide (i.val &&& 2 ^ p.1 = 0) == true

theorem sortNetStage_eq (p : ℕ × Fin 7) : SortNet.stage 7 p.2.val (sortKeep p) = sortNetStage p :=
  SortNet.stage_congr fun i hi => by
    unfold sortKeep
    rw [decide_eq_true hi]
    cases decide (i.val &&& 2 ^ p.1 = 0) <;> rfl

/-- Some of the sort's stages, in order. -/
theorem sortFold_holds (l : List (ℕ × Fin 7)) (hl : ∀ p ∈ l, p ∈ sortStages) : ∀ {A : Recs Ideal r}
    {E : Fin r → Fin (2 ^ 7) → Ent}, Holds f A E →
    Holds f (l.foldl (fun A p => stage p.2 (agree (low r p.2) (descends r p.1)) A) A)
      fun i => Network.apply (l.flatMap sortNetStage) (E i) := by
  induction l with
  | nil => intro A E hA; exact hA
  | cons p l ih =>
    intro A E hA
    have hp := hl p List.mem_cons_self
    have h1 := stage_holds hA p.2 (agree (low r p.2) (descends r p.1)) (sortKeep p)
      (fun i j => agree_apply (low_apply p.2 i j) (descends_apply ⟨p.1, sortStages_lt p hp⟩ i j)) (sortKeep_partner p hp)
    rw [sortNetStage_eq] at h1
    have h2 := ih (fun q hq => hl q (List.mem_cons_of_mem _ hq)) h1
    simp only [List.flatMap_cons, Network.apply_append]
    exact h2

theorem sortNet_eq : SortNet.sortNet 7 true = sortStages.flatMap sortNetStage := by
  simp only [SortNet.sortNet, List.range, List.range.loop, sortStages, List.flatMap_cons, List.flatMap_nil,
    List.reverse_cons, List.reverse_nil, List.nil_append, List.cons_append, List.append_nil, List.append_assoc, sortNetStage]
  rfl

/-- Every row sorted. -/
theorem sortRows_holds {A : Recs Ideal r} {E : Fin r → Fin (2 ^ 7) → Ent} (hA : Holds f A E) :
    Holds f (sortRows A) fun i => Network.apply (SortNet.sortNet 7 true) (E i) := by
  rw [sortNet_eq]
  exact sortFold_holds sortStages (fun _ h => h) hA

theorem low_partner : ∀ (s : Fin 7) (j : Fin (2 ^ 7)),
    decide ((SortNet.partner 7 s.val j).val &&& 2 ^ s.val = 0) = !decide (j.val &&& 2 ^ s.val = 0) := by decide +kernel

/-- A stage of a merge, downward everywhere. -/
def mergeStage (s : Fin 7) : Network (2 ^ 7) := SortNet.stage 7 s.val fun _ => true

/-- Some of a merge's stages, in order. -/
theorem mergeFold_holds (l : List (Fin 7)) : ∀ {A : Recs Ideal r} {E : Fin r → Fin (2 ^ 7) → Ent}, Holds f A E →
    Holds f (l.foldl (fun A s => stage s (low r s) A) A) fun i => Network.apply (l.flatMap mergeStage) (E i) := by
  induction l with
  | nil => intro A E hA; exact hA
  | cons s l ih =>
    intro A E hA
    have h1 := stage_holds hA s (low r s) (fun j => decide (j.val &&& 2 ^ s.val = 0)) (fun i j => low_apply s i j) (low_partner s)
    rw [show SortNet.stage 7 s.val (fun j => decide (j.val &&& 2 ^ s.val = 0)) = mergeStage s from
      SortNet.stage_congr fun i hi => decide_eq_true hi] at h1
    have h2 := ih h1
    simp only [List.flatMap_cons, Network.apply_append]
    exact h2

/-- The order of a row restored. -/
theorem cleanup_holds {A : Recs Ideal r} {E : Fin r → Fin (2 ^ 7) → Ent} (hA : Holds f A E) :
    Holds f (cleanup A) fun i => Network.apply (SortNet.mergeDescNet 7) (E i) := by
  rw [show SortNet.mergeDescNet 7 = ([6, 5, 4, 3, 2, 1, 0] : List (Fin 7)).flatMap mergeStage from rfl]
  exact mergeFold_holds _ hA

/-- The rows hold, in order, the 128 greatest of consecutive stretches of `w` records. -/
def Tops (f : Fin 6 → ℤ → EReal) (e : ℕ → Ent) (w : ℕ) (A : Recs Ideal r) : Prop :=
  ∃ E : Fin r → Fin (2 ^ 7) → Ent, Holds f A E ∧ ∀ i, Antitone (E i) ∧
    List.ofFn (E i) = topList (2 ^ 7) ((List.range' (w * i.val) w).map e)

theorem sortRows_tops {A : Recs Ideal r} {e : ℕ → Ent} (hA : Holds f A fun i j => e (128 * i.val + j.val)) :
    Tops f e 128 (sortRows A) := by
  refine ⟨_, sortRows_holds hA, fun i => ⟨SortNet.sortNet_apply_antitone 7 _, ?_⟩⟩
  have hl : List.ofFn (fun j : Fin (2 ^ 7) => e (128 * i.val + j.val)) = (List.range' (128 * i.val) 128).map e := by
    refine List.ext_getElem (by simp) fun n h1 h2 => ?_
    simp only [List.getElem_ofFn, List.getElem_map, List.getElem_range', Nat.one_mul]
  rw [← hl]
  have ha := SortNet.sortNet_apply_antitone 7 fun j : Fin (2 ^ 7) => e (128 * i.val + j.val)
  obtain ⟨σ, hσ⟩ := Network.exists_perm (SortNet.sortNet 7 true) fun j : Fin (2 ^ 7) => e (128 * i.val + j.val)
  rw [← SortNet.topList_perm (Equiv.Perm.ofFn_comp_perm σ fun j : Fin (2 ^ 7) => e (128 * i.val + j.val)), ← hσ]
  refine (SortNet.topList_eq_self ?_ (by simp)).symm
  exact List.pairwise_ofFn.mpr fun a b hab => ha hab.le

theorem mergeRows_tops {A : Recs Ideal (2 * r)} {e : ℕ → Ent} {w : ℕ} (hA : Tops f e w A) :
    Tops f e (2 * w) (mergeRows A) := by
  obtain ⟨E, hE, ht⟩ := hA
  have h0 (i : Fin r) : 2 * i.val < 2 * r := by have := i.isLt; omega
  have h1 (i : Fin r) : 2 * i.val + 1 < 2 * r := by have := i.isLt; omega
  have hm : Holds f (pick (beats (firsts A).key (firsts A).idx (seconds A).key (seconds A).idx) (firsts A) (seconds A))
      fun i j => max (E ⟨2 * i.val, h0 i⟩ j) (E ⟨2 * i.val + 1, h1 i⟩ (Fin.rev j)) := fun i j => by
    have hf : Reads f (firsts A) (pos i j) (E ⟨2 * i.val, h0 i⟩ j) := firsts_reads rfl (hE _ _)
    have hs : Reads f (seconds A) (pos i j) (E ⟨2 * i.val + 1, h1 i⟩ (Fin.rev j)) := seconds_reads rfl (hE _ _)
    have h := pick_reads hf hs (beats_apply hf hs)
    have he : (if decide (E ⟨2 * i.val + 1, h1 i⟩ (Fin.rev j) < E ⟨2 * i.val, h0 i⟩ j) = true then E ⟨2 * i.val, h0 i⟩ j
        else E ⟨2 * i.val + 1, h1 i⟩ (Fin.rev j)) = max (E ⟨2 * i.val, h0 i⟩ j) (E ⟨2 * i.val + 1, h1 i⟩ (Fin.rev j)) := by
      by_cases hlt : E ⟨2 * i.val + 1, h1 i⟩ (Fin.rev j) < E ⟨2 * i.val, h0 i⟩ j
      · rw [if_pos (decide_eq_true hlt), max_eq_left hlt.le]
      · rw [if_neg (by simpa using hlt), max_eq_right (not_lt.mp hlt)]
    rw [he] at h
    exact h
  refine ⟨_, cleanup_holds hm, fun i => ?_⟩
  obtain ⟨ha, hl⟩ := SortNet.topOfTwo_eq_topList 7 _ _ (ht ⟨2 * i.val, h0 i⟩).1 (ht ⟨2 * i.val + 1, h1 i⟩).1
  refine ⟨ha, hl.trans ?_⟩
  rw [(ht _).2, (ht _).2, SortNet.topList_append_topList_topList, ← List.map_append]
  have e1 : w * (2 * i.val + 1) = w * (2 * i.val) + 1 * w := by rw [Nat.mul_add]; omega
  have e2 : 2 * w * i.val = w * (2 * i.val) := by rw [Nat.mul_comm 2 w, Nat.mul_assoc]
  show topList (2 ^ 7) ((List.range' (w * (2 * i.val)) w ++ List.range' (w * (2 * i.val + 1)) w).map e) = _
  rw [e1, List.range'_append, e2, ← Nat.two_mul]

/-- The one row the network leaves. -/
theorem net_tops {A : Recs Ideal 64} {e : ℕ → Ent} (hA : Holds f A fun i j => e (128 * i.val + j.val)) :
    ∃ E : Fin (2 ^ 7) → Ent, (∀ j, Reads f (net A) (pos (0 : Fin 1) j) (E j)) ∧
      List.ofFn E = topList (2 ^ 7) ((List.range' 0 8192).map e) := by
  have h := mergeRows_tops (r := 1) (mergeRows_tops (r := 2) (mergeRows_tops (r := 4) (mergeRows_tops (r := 8)
    (mergeRows_tops (r := 16) (mergeRows_tops (r := 32) (sortRows_tops hA))))))
  obtain ⟨E, hE, ht⟩ := h
  exact ⟨E 0, fun j => hE 0 j, (ht 0).2⟩

end Cert.Net

end
-- ==== Proof.Select.lean ====
/- The selection of one image on extended reals: row `p` of its result is the box decoded from the channels at the place whose
   record comes `p`-th when the places are ordered by their key, the greater key first and, of equal keys, the smaller place. -/
module

public import proofs.«01_k».proof.Proof.NetSort
public import proofs.«01_k».proof.Proof.Body
public import Idealize.ShloMosaic.Lib.SortNet.Positions

@[expose] public section

noncomputable section

namespace Cert.Net

open Idealize.ShloMosaic
open Idealize.ShloMosaic.SortNet (Network topList)

/-- A place's record: its key and its number. -/
def placeEnt (key : Fin 6400 → EReal) (n : Fin 6400) : Ent := ent (key n) n.val

theorem placeEnt_injective (key : Fin 6400 → EReal) : Function.Injective (placeEnt key) := fun a b h =>
  Fin.ext (Int.ofNat.inj (congrArg Ent.num h))

/-- The place of the record that comes `p`-th. -/
def place (key : Fin 6400 → EReal) (p : Fin 100) : Fin 6400 :=
  sortedFrom (SortNet.greaterFirst (placeEnt key)) ⟨p.val, lt_trans p.isLt (by decide)⟩

/-- A coordinate as a fraction of the image's 640 pixels. -/
def share (x : EReal) : EReal := Ideal.div x (Ideal.ofBits .f32 0x44200000#32)

/-- The box decoded from a place's channels: its centre, its width and height, its confidence and its class. -/
def box (ch : Fin 6 → EReal) : Fin 6 → EReal :=
  ![Ideal.div (share (ch 0) + share (ch 2)) (Ideal.ofBits .f32 0x40000000#32),
    Ideal.div (share (ch 1) + share (ch 3)) (Ideal.ofBits .f32 0x40000000#32),
    share (ch 2) - share (ch 0), share (ch 3) - share (ch 1), ch 4, ch 5]

/-! ## The records before the network -/

/-- The vector of 6400 as 50 rows, lane by lane. -/
theorem rows50_apply (x : Vec Ideal ⟨2, ![1, 6400]⟩ .f32) (i : Fin 50) (j : Fin 128) (n : Fin 6400)
    (hn : n.val = 128 * i.val + j.val) : rows50 x (ValueIdx.ix2 i j) = x (ValueIdx.ix2 0 n) := by
  unfold rows50
  rw [shapeCast_apply _ _ (ValueIdx.ix2 i j) (ValueIdx.ix1 n) ?_, shapeCast_apply _ _ (ValueIdx.ix1 n) (ValueIdx.ix2 0 n) ?_]
  · simp only [Shape.rowMajor_val_two, Shape.rowMajor_val_one]
    show 0 * 6400 + n.val = n.val
    omega
  · simp only [Shape.rowMajor_val_two, Shape.rowMajor_val_one]
    show n.val = i.val * 128 + j.val
    omega

/-- The number of a place, as a word. -/
theorem number50_apply (i : Fin 50) (j : Fin 128) : number50 (ValueIdx.ix2 i j) = BitVec.ofNat 32 (128 * i.val + j.val) := by
  show iota .tc (sh 50 128) 32 [0] _ (ValueIdx.ix2 i j) * 128#32 + iota .tc (sh 50 128) 32 [1] _ (ValueIdx.ix2 i j) = _
  rw [iota_single_apply, iota_single_apply]
  show BitVec.ofNat 32 i.val * BitVec.ofNat 32 128 + BitVec.ofNat 32 j.val = _
  rw [← BitVec.ofNat_mul, ← BitVec.ofNat_add, Nat.mul_comm]

theorem toInt_small {n : ℕ} (h : n < 2 ^ 31) : (BitVec.ofNat 32 n).toInt = n := by
  have e : (BitVec.ofNat 32 n).toNat = n := by rw [BitVec.toNat_ofNat]; omega
  rw [BitVec.toInt_eq_toNat_of_lt (by omega), e]

/-- A lane of the first fifty rows. -/
theorem padRows_low {α : Type} (x : (sh 50 128).Idx → α) (a : α) (i : Fin 64) (j : Fin (2 ^ 7)) (h : i.val < 50) :
    padRows x a (pos i j) = x (ValueIdx.ix2 ⟨i.val, h⟩ ⟨j.val, j.isLt⟩) := by
  unfold padRows
  rw [concatenate_pair_apply]
  exact (dif_pos h).trans (congrArg x (Shape.idx_ext₂ rfl rfl))

/-- A lane of the last fourteen rows. -/
theorem padRows_high {α : Type} (x : (sh 50 128).Idx → α) (a : α) (i : Fin 64) (j : Fin (2 ^ 7)) (h : ¬ i.val < 50) :
    padRows x a (pos i j) = a := by
  unfold padRows
  rw [concatenate_pair_apply]
  exact dif_neg h

/-- The padding's key is the least of all. -/
theorem pad_key : Ideal.ofBits .f32 0xFF800000#32 = ⊥ := by simp [Ideal.ofBits, Ideal.ieee]

/-- Channel `k` at an index: zero outside the 6400 places. -/
def chan (ch : Fin 6 → Fin 6400 → EReal) (k : Fin 6) (n : ℤ) : EReal :=
  if h : n.toNat < 6400 then ch k ⟨n.toNat, h⟩ else Ideal.ofBits .f32 0x00000000#32

/-- The record with number `n`: a place's, or the padding's. -/
def recEnt (key : Fin 6400 → EReal) (n : ℕ) : Ent := if h : n < 6400 then placeEnt key ⟨n, h⟩ else ent ⊥ 1073741824

/-- The records before the network. -/
theorem records_holds (ch : Fin 6 → Fin 6400 → EReal) (x0 x1 x2 x3 x4 x5 : Vec Ideal ⟨2, ![1, 6400]⟩ .f32)
    (h0 : ∀ n, x0 (ValueIdx.ix2 0 n) = ch 0 n) (h1 : ∀ n, x1 (ValueIdx.ix2 0 n) = ch 1 n)
    (h2 : ∀ n, x2 (ValueIdx.ix2 0 n) = ch 2 n) (h3 : ∀ n, x3 (ValueIdx.ix2 0 n) = ch 3 n)
    (h4 : ∀ n, x4 (ValueIdx.ix2 0 n) = ch 4 n) (h5 : ∀ n, x5 (ValueIdx.ix2 0 n) = ch 5 n) :
    Holds (chan ch) (records x0 x1 x2 x3 x4 x5) fun i j => recEnt (ch 4) (128 * i.val + j.val) := fun i j => by
  show Reads _ _ _ (recEnt (ch 4) (128 * i.val + j.val))
  have hj : j.val < 128 := j.isLt
  by_cases h : i.val < 50
  · have hn : 128 * i.val + j.val < 6400 := by omega
    have he : recEnt (ch 4) (128 * i.val + j.val) = ent (ch 4 ⟨_, hn⟩) ((128 * i.val + j.val : ℕ) : ℤ) := dif_pos hn
    have hc (k : Fin 6) : chan ch k ((128 * i.val + j.val : ℕ) : ℤ) = ch k ⟨_, hn⟩ := dif_pos hn
    have hx (x : Vec Ideal ⟨2, ![1, 6400]⟩ .f32) (a : EReal) (k : Fin 6) (hk : ∀ n, x (ValueIdx.ix2 0 n) = ch k n) :
        padRows (rows50 x) a (pos i j) = ch k ⟨_, hn⟩ :=
      (padRows_low _ _ i j h).trans ((rows50_apply x _ _ ⟨_, hn⟩ rfl).trans (hk _))
    rw [he]
    refine ⟨hx x4 _ 4 h4, ?_, (hx x0 _ 0 h0).trans (hc 0).symm, (hx x1 _ 1 h1).trans (hc 1).symm,
      (hx x2 _ 2 h2).trans (hc 2).symm, (hx x3 _ 3 h3).trans (hc 3).symm, (hx x4 _ 4 h4).trans (hc 4).symm,
      (hx x5 _ 5 h5).trans (hc 5).symm⟩
    refine (congrArg BitVec.toInt ((padRows_low _ _ i j h).trans (number50_apply _ _))).trans ?_
    exact toInt_small (show 128 * i.val + j.val < 2 ^ 31 by omega)
  · have hn : ¬ 128 * i.val + j.val < 6400 := by omega
    have he : recEnt (ch 4) (128 * i.val + j.val) = ent ⊥ 1073741824 := dif_neg hn
    have hc (k : Fin 6) : chan ch k 1073741824 = Ideal.ofBits .f32 0x00000000#32 := dif_neg (by decide)
    rw [he]
    refine ⟨(padRows_high _ _ i j h).trans pad_key, (congrArg BitVec.toInt (padRows_high _ _ i j h)).trans (by decide),
      (padRows_high _ _ i j h).trans (hc 0).symm, (padRows_high _ _ i j h).trans (hc 1).symm,
      (padRows_high _ _ i j h).trans (hc 2).symm, (padRows_high _ _ i j h).trans (hc 3).symm,
      (padRows_high _ _ i j h).trans (hc 4).symm, (padRows_high _ _ i j h).trans (hc 5).symm⟩

/-- The greatest records are greatest among the places' own: the padding is below every one of them. -/
theorem topList_recEnt (key : Fin 6400 → EReal) :
    topList (2 ^ 7) ((List.range' 0 8192).map (recEnt key)) = topList (2 ^ 7) (List.ofFn (placeEnt key)) := by
  have hs : List.range' 0 8192 = List.range' 0 6400 ++ List.range' 6400 1792 :=
    (List.range'_append (s := 0) (m := 6400) (n := 1792) (step := 1)).symm
  have hl : (List.range' 0 6400).map (recEnt key) = List.ofFn (placeEnt key) := by
    refine List.ext_getElem (by simp only [List.length_map, List.length_range', List.length_ofFn]) fun n h1 h2 => ?_
    have hn : n < 6400 := by simpa only [List.length_ofFn] using h2
    simp only [List.getElem_ofFn, List.getElem_map, List.getElem_range', Nat.one_mul, Nat.zero_add]
    exact dif_pos hn
  rw [hs, List.map_append, hl]
  refine SortNet.topList_append_of_le _ _ _ (by simp only [List.length_ofFn]; decide) fun s hs a ha => ?_
  obtain ⟨n, hn, rfl⟩ := List.mem_map.mp hs
  have hn6 : ¬ n < 6400 := by
    have := (List.mem_range'_1.mp hn).1
    omega
  obtain ⟨k, rfl⟩ := (List.mem_ofFn' _ _).mp (SortNet.mem_of_mem_topList ha)
  rw [show recEnt key n = ent ⊥ 1073741824 from dif_neg hn6]
  refine ent_le.mpr ?_
  rcases eq_or_ne (key k) ⊥ with h | h
  · refine Or.inr ⟨h.symm, ?_⟩
    have := k.isLt
    omega
  · exact Or.inl (bot_lt_iff_ne_bot.mpr h)

/-- The row the network leaves, at its first hundred lanes: the channels at the places in their order. -/
theorem net_records (ch : Fin 6 → Fin 6400 → EReal) {A : Recs Ideal 64}
    (hA : Holds (chan ch) A fun i j => recEnt (ch 4) (128 * i.val + j.val)) (p : Fin 100) :
    Reads (chan ch) (net A) (pos (0 : Fin 1) ⟨p.val, lt_trans p.isLt (by decide)⟩) (placeEnt (ch 4) (place (ch 4) p)) := by
  obtain ⟨E, hE, ht⟩ := net_tops hA
  have hp : p.val < 2 ^ 7 := lt_trans p.isLt (by decide)
  have h1 := SortNet.entry_sortedFrom_eq_topList (placeEnt (ch 4)) (placeEnt_injective _) (2 ^ 7) ⟨p.val, lt_trans p.isLt (by decide)⟩ hp
  rw [topList_recEnt] at ht
  rw [← ht, List.getElem?_ofFn] at h1
  rw [dif_pos hp] at h1
  rw [show placeEnt (ch 4) (place (ch 4) p) = E ⟨p.val, hp⟩ from Option.some.inj h1]
  exact hE _

theorem chan_place (ch : Fin 6 → Fin 6400 → EReal) (k : Fin 6) (n : Fin 6400) : chan ch k (placeEnt (ch 4) n).num = ch k n := by
  show chan ch k ((n.val : ℕ) : ℤ) = _
  exact dif_pos n.isLt

/-! ## The decoding -/

theorem row_apply (x : FVec Ideal (sh 1 128) .f32) (q : Fin 128) : row x (ValueIdx.ix1 q) = x (ValueIdx.ix2 0 q) := by
  unfold row
  refine shapeCast_apply _ _ _ _ ?_
  simp only [Shape.rowMajor_val_two, Shape.rowMajor_val_one]
  show 0 * 128 + q.val = q.val
  omega

theorem asRow_apply (x : FVec Ideal ⟨1, ![128]⟩ .f32) (q : Fin 128) : asRow x (ValueIdx.ix2 0 q) = x (ValueIdx.ix1 q) := by
  unfold asRow
  refine shapeCast_apply _ _ _ _ ?_
  simp only [Shape.rowMajor_val_two, Shape.rowMajor_val_one]
  show q.val = 0 * 128 + q.val
  omega

theorem frac_apply (x : FVec Ideal (sh 1 128) .f32) (q : Fin 128) : frac x (ValueIdx.ix1 q) = share (x (ValueIdx.ix2 0 q)) := by
  rw [← row_apply x q]; rfl

theorem mid_apply (x y : FVec Ideal ⟨1, ![128]⟩ .f32) (q : Fin 128) :
    mid x y (ValueIdx.ix1 q) = Ideal.div (x (ValueIdx.ix1 q) + y (ValueIdx.ix1 q)) (Ideal.ofBits .f32 0x40000000#32) := rfl

/-- Six vectors as columns, element by element. -/
theorem columns_apply (y0 y1 y2 y3 y4 y5 : FVec Ideal ⟨1, ![128]⟩ .f32) (q : Fin 128) (c : Fin 6) :
    columns y0 y1 y2 y3 y4 y5 (ValueIdx.ix2 q c)
      = (![y0 (ValueIdx.ix1 q), y1 (ValueIdx.ix1 q), y2 (ValueIdx.ix1 q), y3 (ValueIdx.ix1 q), y4 (ValueIdx.ix1 q),
          y5 (ValueIdx.ix1 q)] : Fin 6 → EReal) c := by
  unfold columns
  rw [transpose_apply _ _ _ (ValueIdx.ix2 q c) (ValueIdx.ix2 c q) (fun b => by
    refine Fin.cases ?_ (fun b => Fin.cases ?_ (fun b => b.elim0) b) b <;> rfl)]
  have hp (k : Fin 6) (y : FVec Ideal ⟨1, ![128]⟩ .f32) (hk : c = k)
      (hx : [(⟨sh 1 128, asRow y0⟩ : (s : Shape) × (s.Idx → EReal)), ⟨sh 1 128, asRow y1⟩, ⟨sh 1 128, asRow y2⟩,
        ⟨sh 1 128, asRow y3⟩, ⟨sh 1 128, asRow y4⟩, ⟨sh 1 128, asRow y5⟩][k.val]'k.isLt = ⟨sh 1 128, asRow y⟩) :
      concatenate (sh 6 128) 0 [⟨sh 1 128, asRow y0⟩, ⟨sh 1 128, asRow y1⟩, ⟨sh 1 128, asRow y2⟩, ⟨sh 1 128, asRow y3⟩,
        ⟨sh 1 128, asRow y4⟩, ⟨sh 1 128, asRow y5⟩] cat_six (ValueIdx.ix2 c q) = y (ValueIdx.ix1 q) := by
    subst hk
    refine (concatenate_apply_piece (t := sh 6 128) 0 [⟨sh 1 128, asRow y0⟩, ⟨sh 1 128, asRow y1⟩, ⟨sh 1 128, asRow y2⟩,
      ⟨sh 1 128, asRow y3⟩, ⟨sh 1 128, asRow y4⟩, ⟨sh 1 128, asRow y5⟩] cat_six _ c.val c.isLt (sh 1 128) (asRow y) hx rfl c.val ?_ (ValueIdx.ix2 0 q) ?_ ?_).trans
      (asRow_apply y q)
    · clear hx; fin_cases c <;> rfl
    · intro b hb
      revert hb
      refine Fin.cases ?_ (fun b => Fin.cases ?_ (fun b => b.elim0) b) b
      · intro hb; exact absurd rfl hb
      · intro _; rfl
    · rfl
  fin_cases c
  · exact hp 0 y0 rfl rfl
  · exact hp 1 y1 rfl rfl
  · exact hp 2 y2 rfl rfl
  · exact hp 3 y3 rfl rfl
  · exact hp 4 y4 rfl rfl
  · exact hp 5 y5 rfl rfl

/-- The decoded records, element by element. -/
theorem decode_apply {A : Recs Ideal 1} {f : Fin 6 → ℤ → EReal} {e : Ent} (p : Fin 100)
    (h : Reads f A (pos (0 : Fin 1) ⟨p.val, lt_trans p.isLt (by decide)⟩) e) (c : Fin 6) :
    decode A (ValueIdx.ix3 0 p c) = box (fun k => f k e.num) c := by
  have hp : p.val < 128 := lt_trans p.isLt (by decide)
  unfold decode
  rw [shapeCast_apply _ _ (ValueIdx.ix3 0 p c) (ValueIdx.ix2 p c) ?_]
  · unfold extractStridedSlice
    rw [show (fun a => _ : (⟨2, ![128, 6]⟩ : Shape).Idx) = ValueIdx.ix2 (⟨p.val, hp⟩ : Fin 128) c from
      Shape.idx_ext₂ (Nat.zero_add _) (Nat.zero_add _), columns_apply]
    simp only [mid_apply, ValueIdx.subf_apply, frac_apply, row_apply]
    have e0 : A.c0 (ValueIdx.ix2 0 ⟨p.val, hp⟩) = f 0 e.num := h.c0
    have e1 : A.c1 (ValueIdx.ix2 0 ⟨p.val, hp⟩) = f 1 e.num := h.c1
    have e2 : A.c2 (ValueIdx.ix2 0 ⟨p.val, hp⟩) = f 2 e.num := h.c2
    have e3 : A.c3 (ValueIdx.ix2 0 ⟨p.val, hp⟩) = f 3 e.num := h.c3
    have e4 : A.c4 (ValueIdx.ix2 0 ⟨p.val, hp⟩) = f 4 e.num := h.c4
    have e5 : A.c5 (ValueIdx.ix2 0 ⟨p.val, hp⟩) = f 5 e.num := h.c5
    rw [e0, e1, e2, e3, e4, e5]
    rfl
  · simp only [Shape.rowMajor_val_two, Shape.rowMajor_val_three]
    show p.val * 6 + c.val = (0 * 100 + p.val) * 6 + c.val
    omega

end Cert.Net

namespace Cert.KernelIdeal

open Idealize.ShloMosaic

variable [Facts]

/-- The selection of one image: row `p` is the box at the place that comes `p`-th. -/
theorem out100_apply (d : Vec Ideal S6x6400 .f32) (ch : Fin 6 → Fin 6400 → EReal) (hd : ∀ k n, d (ValueIdx.ix2 k n) = ch k n)
    (p : Fin 100) (c : Fin 6) :
    out100 d (ValueIdx.ix3 0 p c) = Net.box (fun k => ch k (Net.place (ch 4) p)) c := by
  have hw (k : Fin 6) (inb) (n : Fin 6400) :
      VecWindow.window d ![k.val, 0] S1x6400.size inb (ValueIdx.ix2 0 n) = ch k n := by
    rw [← hd k n]
    refine congrArg d (Shape.idx_ext₂ ?_ ?_)
    · show k.val + 1 * 0 = k.val
      omega
    · show 0 + 1 * n.val = n.val
      omega
  unfold out100
  refine (Net.decode_apply p (Net.net_records ch (Net.records_holds ch _ _ _ _ _ _ (hw 0 _) (hw 1 _) (hw 2 _) (hw 3 _) (hw 4 _)
    (hw 5 _)) p) c).trans ?_
  simp only [Net.chan_place]

end Cert.KernelIdeal

end
-- ==== Proof.RefSelect.lean ====
/- The reference's selection on extended reals: the place that comes `p`-th, the channels gathered there, and the box decoded from
   them. -/
module

public import proofs.«01_k».proof.Proof.Select
public import proofs.«01_k».proof.Proof.Gen.ReferenceIdeal.Run
public import Idealize.ShloMosaic.Lib.ReduceAll
public import Idealize.ShloMosaic.Lib.SortFacts

@[expose] public section

noncomputable section

namespace Cert.RefSelect

open Idealize.ShloMosaic

/-! ## Ties keep the smaller place first -/

/-- On a list in ascending order a stable sort that looks at the keys alone is the sort by key and place. -/
theorem stableSort_ties {n : ℕ} (R R' : Fin n → Fin n → Bool) (h : ∀ a b : Fin n, a < b → R b a = R' b a) :
    ∀ l : List (Fin n), l.Pairwise (· < ·) → stableSort R l = stableSort R' l
  | [], _ => rfl
  | a :: l, hl => by
    rw [List.pairwise_cons] at hl
    show insertBefore R a (stableSort R l) = insertBefore R' a (stableSort R' l)
    rw [stableSort_ties R R' h l hl.2]
    exact insertBefore_congr R R' a _ fun b hb => h a b (hl.1 b ((perm_stableSort R' l).mem_iff.mp hb))

theorem sortedFrom_ties {n : ℕ} (R R' : Fin n → Fin n → Bool) (h : ∀ a b : Fin n, a < b → R b a = R' b a) (k : Fin n) :
    sortedFrom R k = sortedFrom R' k := by
  have e : sortPositions n R = sortPositions n R' := stableSort_ties R R' h _ (List.pairwise_lt_finRange n)
  unfold sortedFrom
  simp only [List.get_eq_getElem, Fin.val_cast]
  simp only [e]

/-- The sort by the keys alone puts the places in the order of their records. -/
theorem place_eq (key : Fin 6400 → EReal) (p : Fin 100) :
    sortedFrom (fun k k' => Ideal.cmpTotal .gt (key k) (key k') == 1#1) ⟨p.val, lt_trans p.isLt (by decide)⟩
      = Net.place key p := by
  refine sortedFrom_ties _ _ (fun a b hab => ?_) _
  show (BitVec.ofBool (decide (key a < key b)) == 1#1) = decide (Net.placeEnt key a < Net.placeEnt key b)
  have hn : Net.placeEnt key a < Net.placeEnt key b ↔ key a < key b := by
    refine Net.ent_lt.trans ⟨fun h => h.elim id fun h => ?_, Or.inl⟩
    have h1 : (a.val : ℤ) < b.val := by exact_mod_cast hab
    omega
  rw [decide_eq_decide.mpr hn]
  cases decide (key a < key b) <;> rfl

end Cert.RefSelect

namespace Cert.ReferenceIdeal.Value

open Cert.ReferenceIdeal Cert.ReferenceIdeal.Gen Idealize.ShloMosaic Idealize.ShloMosaic.TcCoe Idealize.SL.Sem
open Idealize.ShloMosaic.StableHlo

variable (V : Valuation τ sig (Elt Ideal))

/-- Image `i`'s channels at a place, as the reference computes them. -/
def chanR (i : Fin 16) (k : Fin 6) (n : Fin 6400) : EReal := res_main_v10 V (ValueIdx.ix3 i n k)

/-- The place that comes `p`-th. -/
abbrev placeR (i : Fin 16) (p : Fin 100) : Fin 6400 := Net.place (chanR V i 4) p

theorem v12_apply (i : Fin 16) (n : Fin 6400) : res_main_v12 V (ValueIdx.ix2 i n) = chanR V i 4 n := by
  unfold res_main_v12
  refine (shapeCast_apply _ _ (ValueIdx.ix2 i n) (ValueIdx.ix3 i n (0 : Fin 1)) ?_).trans ?_
  · simp only [Shape.rowMajor_val_two, Shape.rowMajor_val_three]
    show (i.val * 6400 + n.val) * 1 + 0 = i.val * 6400 + n.val
    omega
  · refine congrArg (res_main_v10 V) (funext fun a => Fin.ext ?_)
    match a with
    | ⟨0, _⟩ => exact Nat.zero_add _
    | ⟨1, _⟩ => exact Nat.zero_add _
    | ⟨2, _⟩ => rfl

theorem along_row (i : Fin 16) (n k : Fin 6400) : (ValueIdx.ix2 i n : S16x6400.Idx).along 1 k = ValueIdx.ix2 i k :=
  Shape.idx_ext₂ rfl rfl

/-- The second of two arrays sorted along their rows, element by element. -/
theorem sort2_snd (cmp : EReal × BitVec 32 → EReal × BitVec 32 → BitVec 1) (x : S16x6400.Idx → EReal) (y : IVec S16x6400 32)
    (i : Fin 16) (n : Fin 6400) : (Host.sort2 S16x6400 1 cmp x y).2 (ValueIdx.ix2 i n)
      = y (ValueIdx.ix2 i (sortedFrom (fun k k' => cmp (x (ValueIdx.ix2 i k), y (ValueIdx.ix2 i k))
          (x (ValueIdx.ix2 i k'), y (ValueIdx.ix2 i k')) == 1#1) n)) := by
  unfold Host.sort2
  rw [dif_pos (show 1 < S16x6400.rank by decide)]
  refine (congrArg y (along_row i n _)).trans ?_
  refine congrArg (fun R => y (ValueIdx.ix2 i (sortedFrom R n))) (funext fun k => funext fun k' => ?_)
  exact congrArg₂ (fun a b => cmp (x a, y a) (x b, y b) == 1#1) (along_row i n k) (along_row i n k')

/-- The index found for rank `p`. -/
theorem indices_apply (i : Fin 16) (p : Fin 100) :
    (Host.topK S16x100 1 (FloatOps.cmpfTotal .gt) (res_main_v12 V) sliceFits_S16x6400_S16x100).2 (ValueIdx.ix2 i p)
      = BitVec.ofNat 32 (placeR V i p).val := by
  have hp : p.val < 6400 := lt_trans p.isLt (by decide)
  unfold Host.topK
  have hj (v : IVec S16x6400 32) (j : S16x6400.Idx) (h0 : (j 0).val = 0 + i.val) (h1 : (j 1).val = 0 + p.val) :
      v j = v (ValueIdx.ix2 i ⟨p.val, hp⟩) :=
    congrArg v (Shape.idx_ext₂ (h0.trans (Nat.zero_add _)) (h1.trans (Nat.zero_add _)))
  show (Host.sort2 S16x6400 1 (fun l r => FloatOps.cmpfTotal CmpDirection.gt l.1 r.1) (res_main_v12 V)
    (fun j => if hd : 1 < S16x6400.rank then iotaInDim S16x6400 32 ⟨1, hd⟩ j else 0#32)).2 _ = _
  refine (hj _ _ rfl rfl).trans ?_
  rw [sort2_snd, dif_pos (show 1 < S16x6400.rank by decide)]
  show BitVec.ofNat 32 (sortedFrom (fun k k' => Ideal.cmpTotal .gt (res_main_v12 V (ValueIdx.ix2 i k))
    (res_main_v12 V (ValueIdx.ix2 i k')) == 1#1) ⟨p.val, hp⟩).val = _
  simp only [v12_apply]
  rw [RefSelect.place_eq]

/-- The index, repeated along the channels. -/
theorem v14_apply (i : Fin 16) (p : Fin 100) (c : Fin 6) :
    res_main_v14 V (ValueIdx.ix3 i p c) = BitVec.ofNat 32 (placeR V i p).val := by
  unfold res_main_v14
  rw [broadcastInDim_apply _ _ _ _ (ValueIdx.ix3 i p (0 : Fin 1)) (fun a => by fin_cases a <;> rfl),
    broadcastInDim_apply _ _ _ _ (ValueIdx.ix2 i p) (fun a => by fin_cases a <;> rfl)]
  exact indices_apply V i p

/-- A place's word is not negative, and at most the last place. -/
theorem word_nonneg (n : Fin 6400) : Scalar.cmpi .slt (BitVec.ofNat 32 n.val) 0#32 = 0#1 := by
  show BitVec.ofBool (BitVec.slt _ _) = _
  rw [BitVec.slt_eq_decide, Net.toInt_small (lt_trans n.isLt (by decide)), decide_eq_false (by simp)]
  rfl

theorem word_sge (n : Fin 6400) : Scalar.cmpi .sge (BitVec.ofNat 32 n.val) 0#32 = 1#1 := by
  show BitVec.ofBool (BitVec.sle _ _) = _
  rw [BitVec.sle_eq_decide, Net.toInt_small (lt_trans n.isLt (by decide)), decide_eq_true (by simp)]
  rfl

theorem word_sle (n : Fin 6400) : Scalar.cmpi .sle (BitVec.ofNat 32 n.val) 6399#32 = 1#1 := by
  have h := n.isLt
  show BitVec.ofBool (BitVec.sle _ _) = _
  rw [BitVec.sle_eq_decide, Net.toInt_small (lt_trans n.isLt (by decide)), decide_eq_true]
  · rfl
  · show (n.val : ℤ) ≤ 6399
    omega

/-- The start index of the gather. -/
theorem start_apply (i : Fin 16) (p : Fin 100) (c : Fin 6) (u : Fin 1) :
    res_main_call0_v5 V (ValueIdx.ix4 i p c u) = BitVec.ofNat 32 (placeR V i p).val := by
  unfold res_main_call0_v5
  refine (shapeCast_apply _ _ (ValueIdx.ix4 i p c u) (ValueIdx.ix3 i p c) ?_).trans ?_
  rotate_left
  · show Scalar.select (Scalar.cmpi .slt (res_main_v14 V (ValueIdx.ix3 i p c)) 0#32) _ (res_main_v14 V (ValueIdx.ix3 i p c)) = _
    rw [v14_apply, word_nonneg]
    rfl
  · simp only [Shape.rowMajor_val_three, Shape.rowMajor_val_four]
    show (i.val * 100 + p.val) * 6 + c.val = ((i.val * 100 + p.val) * 6 + c.val) * 1 + u.val
    omega

/-- How the gather reads its operand: images and channels go along, the index picks the place. -/
abbrev places : GatherDims S16x6400x6 S16x100x6x1 S16x100x6 := gather_S16x6400x6_S16x100x6x1_S16x100x6_n_1_02_02_1_3_111

theorem operandIdx_val (j : S16x100x6.Idx) (idx : IVec S16x100x6x1 32) (a : Fin 3) :
    (places.operandIdx j idx a).val = places.start j idx a + places.batchCoord j a + places.offCoord j a := rfl

/-- The gather reads the place's channels. -/
theorem gather_place (x : S16x6400x6.Idx → EReal) (idx : IVec S16x100x6x1 32) (i : Fin 16) (p : Fin 100) (c : Fin 6)
    (n : Fin 6400) (h : idx (ValueIdx.ix4 i p c (0 : Fin 1)) = BitVec.ofNat 32 n.val) :
    Host.gather gather_S16x6400x6_S16x100x6x1_S16x100x6_n_1_02_02_1_3_111 x idx (ValueIdx.ix3 i p c) = x (ValueIdx.ix3 i n c) := by
  unfold Host.gather
  refine congrArg x (funext fun a => Fin.ext ?_)
  rw [operandIdx_val]
  have hoff : (places).offCoord (ValueIdx.ix3 i p c) a = 0 := GatherDims.offCoord_eq_zero _ _ _ fun h => by
    have h' := (GatherDims.mem_sKept _ _).mp h
    match a, h' with
    | ⟨0, _⟩, h' => exact h'.2 (show (0 : Fin 3) ∈ _ by decide)
    | ⟨1, _⟩, h' => exact h'.1 (show (1 : Fin 3) ∈ _ by decide)
    | ⟨2, _⟩, h' => exact h'.2 (show (2 : Fin 3) ∈ _ by decide)
  rw [hoff, Nat.add_zero]
  match a with
  | ⟨0, _⟩ =>
    show places.start _ idx (0 : Fin 3) + places.batchCoord _ (0 : Fin 3) = _
    rw [GatherDims.start_batching _ _ _ _ (show (0 : Fin 3) ∈ places.operandBatchingDims by decide), Nat.zero_add]
    unfold GatherDims.batchCoord
    rw [dif_pos (show (0 : Fin 3) ∈ places.operandBatchingDims by decide)]
    rfl
  | ⟨2, _⟩ =>
    show places.start _ idx (2 : Fin 3) + places.batchCoord _ (2 : Fin 3) = _
    rw [GatherDims.start_batching _ _ _ _ (show (2 : Fin 3) ∈ places.operandBatchingDims by decide), Nat.zero_add]
    unfold GatherDims.batchCoord
    rw [dif_pos (show (2 : Fin 3) ∈ places.operandBatchingDims by decide)]
    rfl
  | ⟨1, _⟩ =>
    show places.start _ idx (1 : Fin 3) + places.batchCoord _ (1 : Fin 3) = _
    rw [GatherDims.batchCoord_eq_zero _ _ _ (show (1 : Fin 3) ∉ places.operandBatchingDims by decide), Nat.add_zero]
    unfold GatherDims.start
    rw [dif_pos (show (1 : Fin 3) ∈ places.startIndexMap by decide)]
    have hs : places.siIdx (ValueIdx.ix3 i p c) ⟨List.idxOf (1 : Fin 3) places.startIndexMap,
        List.idxOf_lt_length_iff.2 (by decide)⟩ = ValueIdx.ix4 i p c (0 : Fin 1) := by
      funext b
      refine Fin.ext ?_
      match b with
      | ⟨0, _⟩ => rfl
      | ⟨1, _⟩ => rfl
      | ⟨2, _⟩ => rfl
      | ⟨3, _⟩ => rfl
    have hn := n.isLt
    show min (idx (places.siIdx _ _)).toInt.toNat 6399 = n.val
    rw [hs, h, Net.toInt_small (lt_trans hn (by decide))]
    omega

/-- The channels gathered. -/
theorem v15_apply (i : Fin 16) (p : Fin 100) (c : Fin 6) :
    res_main_v15 V (ValueIdx.ix3 i p c) = chanR V i c (placeR V i p) := by
  unfold res_main_v15
  rw [ValueIdx.select_apply, Host.reduce_andi_one _ _ _ _ _ rfl, gather_place _ _ i p c _ (start_apply V i p c 0)]
  · rfl
  · intro y
    obtain ⟨i, p, c, u, rfl⟩ : ∃ i p c u, y = ValueIdx.ix4 i p c u := ⟨_, _, _, _, ValueIdx.eq_ix4 y⟩
    show Scalar.cmpi .sge (res_main_call0_v5 V (ValueIdx.ix4 i p c u)) 0#32
      &&& Scalar.cmpi .sle (res_main_call0_v5 V (ValueIdx.ix4 i p c u)) 6399#32 = 1#1
    rw [start_apply, word_sge, word_sle]
    rfl

/-- One channel of the gathered records. -/
theorem column_apply (k : Fin 6) (hs) (hc) (i : Fin 16) (p : Fin 100) :
    shapeCast S16x100 (extractStridedSlice S16x100x1 ![0, 0, k.val] (res_main_v15 V) hs) hc (ValueIdx.ix2 i p)
      = chanR V i k (placeR V i p) := by
  rw [shapeCast_apply _ _ (ValueIdx.ix2 i p) (ValueIdx.ix3 i p (0 : Fin 1)) ?_, ← v15_apply]
  · refine congrArg (res_main_v15 V) (funext fun a => Fin.ext ?_)
    match a with
    | ⟨0, _⟩ => exact Nat.zero_add _
    | ⟨1, _⟩ => exact Nat.zero_add _
    | ⟨2, _⟩ => rfl
  · simp only [Shape.rowMajor_val_two, Shape.rowMajor_val_three]
    show (i.val * 100 + p.val) * 1 + 0 = i.val * 100 + p.val
    omega

theorem v19_apply (i : Fin 16) (p : Fin 100) : res_main_v19 V (ValueIdx.ix2 i p) = Net.share (chanR V i 0 (placeR V i p)) :=
  congrArg Net.share (column_apply V 0 slices_S16x100x6_S16x100x1_0_0_0 shapeCasts_S16x100x1_S16x100 i p)

theorem v23_apply (i : Fin 16) (p : Fin 100) : res_main_v23 V (ValueIdx.ix2 i p) = Net.share (chanR V i 1 (placeR V i p)) :=
  congrArg Net.share (column_apply V 1 slices_S16x100x6_S16x100x1_0_0_1 shapeCasts_S16x100x1_S16x100 i p)

theorem v27_apply (i : Fin 16) (p : Fin 100) : res_main_v27 V (ValueIdx.ix2 i p) = Net.share (chanR V i 2 (placeR V i p)) :=
  congrArg Net.share (column_apply V 2 slices_S16x100x6_S16x100x1_0_0_2 shapeCasts_S16x100x1_S16x100 i p)

theorem v31_apply (i : Fin 16) (p : Fin 100) : res_main_v31 V (ValueIdx.ix2 i p) = Net.share (chanR V i 3 (placeR V i p)) :=
  congrArg Net.share (column_apply V 3 slices_S16x100x6_S16x100x1_0_0_3 shapeCasts_S16x100x1_S16x100 i p)

/-- A column of one element per record. -/
def col (y : FVec Ideal S16x100 .f32) : FVec Ideal S16x100x1 .f32 := broadcastInDim S16x100x1 ![0, 1] bcast_S16x100_S16x100x1_0_1 y

theorem col_apply (y : FVec Ideal S16x100 .f32) (i : Fin 16) (p : Fin 100) :
    col y (ValueIdx.ix3 i p (0 : Fin 1)) = y (ValueIdx.ix2 i p) :=
  broadcastInDim_apply _ _ _ _ (ValueIdx.ix2 i p) (fun a => by fin_cases a <;> rfl)

/-- Six columns side by side. -/
def stack (y0 y1 y2 y3 y4 y5 : FVec Ideal S16x100 .f32) : FVec Ideal S16x100x6 .f32 :=
  concatenate S16x100x6 2 [⟨S16x100x1, col y0⟩, ⟨S16x100x1, col y1⟩, ⟨S16x100x1, col y2⟩, ⟨S16x100x1, col y3⟩,
    ⟨S16x100x1, col y4⟩, ⟨S16x100x1, col y5⟩]
    concatenates_S16x100x1_S16x100x1_S16x100x1_S16x100x1_S16x100x1_S16x100x1_S16x100x6_d2

theorem stack_apply (y0 y1 y2 y3 y4 y5 : FVec Ideal S16x100 .f32) (i : Fin 16) (p : Fin 100) (c : Fin 6) :
    stack y0 y1 y2 y3 y4 y5 (ValueIdx.ix3 i p c)
      = (![y0 (ValueIdx.ix2 i p), y1 (ValueIdx.ix2 i p), y2 (ValueIdx.ix2 i p), y3 (ValueIdx.ix2 i p), y4 (ValueIdx.ix2 i p),
          y5 (ValueIdx.ix2 i p)] : Fin 6 → EReal) c := by
  have hp (k : Fin 6) (y : FVec Ideal S16x100 .f32) (hk : c = k)
      (hx : [(⟨S16x100x1, col y0⟩ : (s : Shape) × (s.Idx → EReal)), ⟨S16x100x1, col y1⟩, ⟨S16x100x1, col y2⟩,
        ⟨S16x100x1, col y3⟩, ⟨S16x100x1, col y4⟩, ⟨S16x100x1, col y5⟩][k.val]'k.isLt = ⟨S16x100x1, col y⟩) :
      stack y0 y1 y2 y3 y4 y5 (ValueIdx.ix3 i p c) = y (ValueIdx.ix2 i p) := by
    subst hk
    refine (concatenate_apply_piece (t := S16x100x6) 2 [⟨S16x100x1, col y0⟩, ⟨S16x100x1, col y1⟩, ⟨S16x100x1, col y2⟩,
      ⟨S16x100x1, col y3⟩, ⟨S16x100x1, col y4⟩, ⟨S16x100x1, col y5⟩] _ _ c.val c.isLt S16x100x1 (col y) hx rfl c.val ?_
      (ValueIdx.ix3 i p (0 : Fin 1)) ?_ ?_).trans (col_apply y i p)
    · clear hx; fin_cases c <;> rfl
    · intro b hb
      match b, hb with
      | ⟨0, _⟩, _ => rfl
      | ⟨1, _⟩, _ => rfl
      | ⟨2, _⟩, hb => exact absurd rfl hb
    · rfl
  fin_cases c
  · exact hp 0 y0 rfl rfl
  · exact hp 1 y1 rfl rfl
  · exact hp 2 y2 rfl rfl
  · exact hp 3 y3 rfl rfl
  · exact hp 4 y4 rfl rfl
  · exact hp 5 y5 rfl rfl

/-- A constant divisor. -/
def halve (y : FVec Ideal S16x100 .f32) : FVec Ideal S16x100 .f32 :=
  Host.divf y (broadcastInDim S16x100 ![] bcast_S_S16x100 (constant S_ .f32 0x40000000#32))

/-- The reference's result of the arguments' contents. -/
def resultR : FVec Ideal S16x100x6 .f32 :=
  stack (halve (addf (res_main_v19 V) (res_main_v27 V))) (halve (addf (res_main_v23 V) (res_main_v31 V)))
    (subf (res_main_v27 V) (res_main_v19 V)) (subf (res_main_v31 V) (res_main_v23 V))
    (shapeCast S16x100 (extractStridedSlice S16x100x1 ![0, 0, 4] (res_main_v15 V) slices_S16x100x6_S16x100x1_0_0_4)
      shapeCasts_S16x100x1_S16x100)
    (shapeCast S16x100 (extractStridedSlice S16x100x1 ![0, 0, 5] (res_main_v15 V) slices_S16x100x6_S16x100x1_0_0_5)
      shapeCasts_S16x100x1_S16x100)

theorem resultR_apply (i : Fin 16) (p : Fin 100) (c : Fin 6) :
    resultR V (ValueIdx.ix3 i p c) = Net.box (fun k => chanR V i k (placeR V i p)) c := by
  unfold resultR
  rw [stack_apply]
  have h4 : shapeCast S16x100 (extractStridedSlice S16x100x1 ![0, 0, 4] (res_main_v15 V) slices_S16x100x6_S16x100x1_0_0_4)
      shapeCasts_S16x100x1_S16x100 (ValueIdx.ix2 i p) = chanR V i 4 (placeR V i p) := column_apply V 4 _ _ i p
  have h5 : shapeCast S16x100 (extractStridedSlice S16x100x1 ![0, 0, 5] (res_main_v15 V) slices_S16x100x6_S16x100x1_0_0_5)
      shapeCasts_S16x100x1_S16x100 (ValueIdx.ix2 i p) = chanR V i 5 (placeR V i p) := column_apply V 5 _ _ i p
  have hh (y : FVec Ideal S16x100 .f32) : halve y (ValueIdx.ix2 i p)
      = Ideal.div (y (ValueIdx.ix2 i p)) (Ideal.ofBits .f32 0x40000000#32) := rfl
  simp only [hh, ValueIdx.addf_apply, ValueIdx.subf_apply, v19_apply, v23_apply, v27_apply, v31_apply]
  rw [h4, h5]
  unfold Net.box
  rfl

/-- The reference's run: the result array, the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = resultR (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (run (F := Ideal) m ρ)

end Cert.ReferenceIdeal.Value

end
-- ==== Proof.RefConv.lean ====
/- The reference's channels are the layer's. -/
module

public import proofs.«01_k».proof.Proof.RefSelect
public import proofs.«01_k».proof.Proof.Conv

@[expose] public section

noncomputable section

namespace Cert.ReferenceIdeal.Value

open Cert.ReferenceIdeal Cert.ReferenceIdeal.Gen
open Idealize.ShloMosaic Idealize.ShloMosaic.TcCoe

/-- The product of the weights and the patches. -/
abbrev prod : DotDims S6x3x8x8 S16x3x80x8x80x8 S6x16x80x80 := dot_S6x3x8x8_S16x3x80x8x80x8_S6x16x80x80_123_135_0_024_n_n

/-- A product's summation index, from its colour, row and column. -/
def patchIdx (a : Fin 3) (r s : Fin 8) : prod.contr.Idx := fun p =>
  match p with
  | ⟨0, _⟩ => (a : Fin 3)
  | ⟨1, _⟩ => (r : Fin 8)
  | ⟨2, _⟩ => (s : Fin 8)
  | ⟨_ + 3, h⟩ => absurd h (Nat.not_lt.2 (Nat.le_add_left _ _))

/-- The summation indices are the colours, rows and columns. -/
def patchEquiv : Fin 3 × Fin 8 × Fin 8 ≃ prod.contr.Idx where
  toFun t := patchIdx t.1 t.2.1 t.2.2
  invFun q := ((q ⟨0, by decide⟩ : Fin 3), (q ⟨1, by decide⟩ : Fin 8), (q ⟨2, by decide⟩ : Fin 8))
  left_inv _ := rfl
  right_inv q := by
    funext p
    match p with
    | ⟨0, _⟩ => rfl
    | ⟨1, _⟩ => rfl
    | ⟨2, _⟩ => rfl
    | ⟨_ + 3, h⟩ => exact absurd h (Nat.not_lt.2 (Nat.le_add_left _ _))

theorem sum_patch (f : prod.contr.Idx → EReal) :
    ∑ q : prod.contr.Idx, f q = ∑ a : Fin 3, ∑ r : Fin 8, ∑ s : Fin 8, f (patchIdx a r s) := by
  rw [← Fintype.sum_equiv patchEquiv (fun t => f (patchIdx t.1 t.2.1 t.2.2)) f fun _ => rfl]
  simp only [Fintype.sum_prod_type]

theorem lhs_patch (k : Fin 6) (i : Fin 16) (y z : Fin 80) (a : Fin 3) (r s : Fin 8) :
    prod.lhsIdx (ValueIdx.ix4 k i y z) (patchIdx a r s) = ValueIdx.ix4 k a r s := by
  funext p
  refine Fin.ext ?_
  match p with
  | ⟨0, _⟩ => rfl
  | ⟨1, _⟩ => rfl
  | ⟨2, _⟩ => rfl
  | ⟨3, _⟩ => rfl

theorem rhs_patch (k : Fin 6) (i : Fin 16) (y z : Fin 80) (a : Fin 3) (r s : Fin 8) :
    prod.rhsIdx (ValueIdx.ix4 k i y z) (patchIdx a r s) = ValueIdx.ix6 i a y r z s := by
  funext p
  refine Fin.ext ?_
  match p with
  | ⟨0, _⟩ => rfl
  | ⟨1, _⟩ => rfl
  | ⟨2, _⟩ => rfl
  | ⟨3, _⟩ => rfl
  | ⟨4, _⟩ => rfl
  | ⟨5, _⟩ => rfl

/-- The patches: the scaled images, colours reversed, cut into squares of eight by eight. -/
theorem patches_apply (x : FVec Ideal S16x3x640x640 .f32) (i : Fin 16) (a : Fin 3) (y z : Fin 80) (r s : Fin 8) :
    shapeCast S16x3x80x8x80x8 (Host.reverse [1] (Host.divf x (broadcastInDim S16x3x640x640 ![] bcast_S_S16x3x640x640
      (constant S_ .f32 0x437F0000#32)))) shapeCasts_S16x3x640x640_S16x3x80x8x80x8 (ValueIdx.ix6 i a y r z s)
      = Net.scaled (x (ValueIdx.ix4 i a.rev (Net.along y r) (Net.along z s))) := by
  refine (shapeCast_apply _ _ (ValueIdx.ix6 i a y r z s) (ValueIdx.ix4 i a (Net.along y r) (Net.along z s)) ?_).trans ?_
  · simp only [Shape.rowMajor_val_four, Shape.rowMajor_val_six]
    show ((i.val * 3 + a.val) * 640 + (8 * y.val + r.val)) * 640 + (8 * z.val + s.val)
      = ((((i.val * 3 + a.val) * 80 + y.val) * 8 + r.val) * 80 + z.val) * 8 + s.val
    omega
  · show Net.scaled (x _) = _
    refine congrArg (fun j => Net.scaled (x j)) (funext fun p => Fin.ext ?_)
    match p with
    | ⟨0, _⟩ => rfl
    | ⟨1, _⟩ => rfl
    | ⟨2, _⟩ => rfl
    | ⟨3, _⟩ => rfl

variable (V : Valuation τ sig (Elt Ideal))

/-- The reference's channels. -/
theorem chanR_eq (i : Fin 16) (k : Fin 6) (n : Fin 6400) : chanR V i k n
    = Net.channel (V (Proc.devRef .tc main_arg0)) (V (Proc.devRef .tc main_arg1)) (V (Proc.devRef .tc main_arg2)) i k n := by
  unfold chanR res_main_v10
  refine (transpose_apply _ _ _ (ValueIdx.ix3 i n k) (ValueIdx.ix3 i k n) (fun a => by fin_cases a <;> rfl)).trans ?_
  refine (shapeCast_apply _ _ (ValueIdx.ix3 i k n) (ValueIdx.ix4 i k (Net.prow n) (Net.pcol n)) ?_).trans ?_
  · simp only [Shape.rowMajor_val_three, Shape.rowMajor_val_four]
    show ((i.val * 6 + k.val) * 80 + n.val / 80) * 80 + n.val % 80 = (i.val * 6 + k.val) * 6400 + n.val
    omega
  unfold Net.channel Net.layer
  refine congrArg₂ (· + ·) ?_ ?_
  · refine (transpose_apply _ _ _ (ValueIdx.ix4 i k (Net.prow n) (Net.pcol n)) (ValueIdx.ix4 k i (Net.prow n) (Net.pcol n))
      (fun a => by fin_cases a <;> rfl)).trans ?_
    refine (Ideal.dotGeneral_apply prod _ _ _ _ _).trans ?_
    rw [sum_patch]
    refine Finset.sum_congr rfl fun a _ => Finset.sum_congr rfl fun r _ => Finset.sum_congr rfl fun s _ => ?_
    rw [lhs_patch, rhs_patch]
    exact congrArg _ (patches_apply _ i a _ _ r s)
  · refine (broadcastInDim_apply _ _ _ _ (ValueIdx.ix4 (0 : Fin 1) k (0 : Fin 1) (0 : Fin 1)) (fun a => by fin_cases a <;> rfl)).trans ?_
    exact broadcastInDim_apply _ _ _ _ (ValueIdx.ix1 k) (fun a => by fin_cases a; rfl)

end Cert.ReferenceIdeal.Value

end
-- ==== Proof.Equal.lean ====
/- The kernel and the reference end with the same result. -/
module

public import proofs.«01_k».proof.Proof.Frames
public import proofs.«01_k».proof.Proof.Result
public import proofs.«01_k».proof.Proof.KerConv
public import proofs.«01_k».proof.Proof.RefConv

@[expose] public section

noncomputable section

namespace Cert.Equal

open Idealize.ShloMosaic Idealize.SL.Sem

/-- The common result: place `p` of image `i` is decoded from the channels of the place whose confidence comes `p`-th. -/
theorem results (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2)) :
    Cert.ReferenceIdeal.Value.resultR V = Cert.KernelIdeal.Value.result m c := by
  have hp (i : Fin 16) (p : Fin 100) (k : Fin 6) : Cert.ReferenceIdeal.Value.resultR V (ValueIdx.ix3 i p k)
      = Cert.KernelIdeal.out100 (Cert.KernelIdeal.Value.predsAt m c i.val) (ValueIdx.ix3 (0 : Fin 1) p k) := by
    refine (Cert.ReferenceIdeal.Value.resultR_apply V i p k).trans (Cert.KernelIdeal.out100_apply _
      (Cert.ReferenceIdeal.Value.chanR V i) (fun k n => ?_) p k).symm
    rw [Cert.ReferenceIdeal.Value.chanR_eq, h0, h1, h2]
    exact Cert.KernelIdeal.Value.predsAt_apply m c i k n
  funext y
  exact (congrArg _ (ValueIdx.eq_ix3 y)).trans (hp (y 0) (y 1) (y 2))

theorem algebraic : Cert.algebraic_KernelIdeal_ReferenceIdeal (hKernelIdeal := Cert.KernelIdeal.Gen.facts)
    (hReferenceIdeal := Cert.ReferenceIdeal.Gen.facts) := fun m g m' g' _ hm =>
  ⟨Cert.KernelIdeal.Value.result m, Cert.KernelIdeal.Value.run_result m g,
    (θ_run Cert.ReferenceIdeal.defs _ _).mono
      (fun _ h c => ⟨(h c).1.trans (results m (StableHlo.launchContents m' c) c (hm c).1 (hm c).2.1 (hm c).2.2), (h c).2⟩)
      (Cert.ReferenceIdeal.Value.run_result m' g')⟩

end Cert.Equal

end
-- ==== Proof.lean ====
module

public import proofs.«01_k».proof.Proof.Equal

@[expose] public section

noncomputable section

namespace Cert.Proof

theorem claim : Cert.Claim := ⟨Cert.Kernel.Gen.facts, Cert.KernelIdeal.Gen.facts, Cert.ReferenceIdeal.Gen.facts,
  Cert.Frames.kernel, Cert.Frames.kernelIdeal, Cert.Frames.referenceIdeal, trivial, Cert.Equal.algebraic⟩

end Cert.Proof

end
